-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 8192, 2048]⟩ ⟨3, ![4, 8192, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x2048 : Shape := ⟨3, ![1, 8192, 2048]⟩
abbrev S8192x2048 : Shape := ⟨2, ![8192, 2048]⟩
abbrev S2048 : Shape := ⟨1, ![2048]⟩
abbrev S1x2048 : Shape := ⟨2, ![1, 2048]⟩
abbrev S2x2x256x2048 : Shape := ⟨4, ![2, 2, 256, 2048]⟩
abbrev S2x256x2048 : Shape := ⟨3, ![2, 256, 2048]⟩
abbrev S2x2 : Shape := ⟨2, ![2, 2]⟩
abbrev S2 : Shape := ⟨1, ![2]⟩
abbrev S_ : Shape := ⟨0, ![]⟩
abbrev S1 : Shape := ⟨1, ![1]⟩
abbrev S1x1x256x2048 : Shape := ⟨4, ![1, 1, 256, 2048]⟩
abbrev S256x2048 : Shape := ⟨2, ![256, 2048]⟩
abbrev S1x1 : Shape := ⟨2, ![1, 1]⟩
abbrev S1x256x2048 : Shape := ⟨3, ![1, 256, 2048]⟩
abbrev S256 : Shape := ⟨1, ![256]⟩
abbrev S256x1 : Shape := ⟨2, ![256, 1]⟩

abbrev nBuf : Space → Nat
  | .hbm => 6
  | .vmem => 5
  | .smem => 0
  | _ => 0

abbrev bufTy : (tb : Table) → Fin (tcTables nBuf tb) → BufTy
  | .hbm, ⟨0, _⟩ => ⟨S1x8192x2048, .f32⟩
  | .hbm, ⟨1, _⟩ => ⟨S8192x2048, .f32⟩
  | .hbm, ⟨2, _⟩ => ⟨S2048, .f32⟩
  | .hbm, ⟨3, _⟩ => ⟨S8192x2048, .f32⟩
  | .hbm, ⟨4, _⟩ => ⟨S1x2048, .f32⟩
  | .hbm, ⟨5, _⟩ => ⟨S8192x2048, .f32⟩
  | .local _ .vmem, ⟨0, _⟩ => ⟨S1x2048, .f32⟩
  | .local _ .vmem, ⟨1, _⟩ => ⟨S2x2x256x2048, .f32⟩
  | .local _ .vmem, ⟨2, _⟩ => ⟨S2x2x256x2048, .f32⟩
  | .local _ .vmem, ⟨3, _⟩ => ⟨S2x256x2048, .f32⟩
  | .local _ .vmem, ⟨4, _⟩ => ⟨S2x256x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 5 25 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 4

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_11 : BitVec 32 := 1#32
  let v14 : BitVec 32 := Scalar.muli v7 c1_i32_11
  let v15 : BitVec 32 := Scalar.addi c0_i32 v14
  v15.toNat
def k0_dev2 (d0 : Dev nD) : Nat :=
  let c0_i32_14 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_13 : BitVec 32 := 1#32
  let v16 : BitVec 32 := Scalar.muli v4 c1_i32_13
  let v17 : BitVec 32 := Scalar.addi c0_i32_14 v16
  v17.toNat
def k0_off1 (d0 : Dev nD) (c0_i32_15 : BitVec 32) (c0_i32_16 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v18 : BitVec 32 := Scalar.muli v2 c2048_i32
  let v19 : BitVec 32 := Scalar.addi v18 c0_i32_15
  let v20 : BitVec 32 := Scalar.addi v19 c0_i32_16
  let c0_i32_22 : BitVec 32 := 0#32
  ![v20.toNat, 0]
def k0_dev3 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_51 : BitVec 32 := 1#32
  let v44 : BitVec 32 := Scalar.muli v4 c1_i32_51
  let v45 : BitVec 32 := Scalar.addi c0_i32_52 v44
  v45.toNat
def k0_dev4 (d0 : Dev nD) : Nat :=
  let c0_i32_66 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_65 : BitVec 32 := 1#32
  let v54 : BitVec 32 := Scalar.muli v7 c1_i32_65
  let v55 : BitVec 32 := Scalar.addi c0_i32_66 v54
  v55.toNat
def k0_off2 (d0 : Dev nD) (c0_i32_73 : BitVec 32) (c0_i32_80 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_71 : BitVec 32 := 4#32
  let v64 : BitVec 32 := Scalar.addi v2 c4_i32_71
  let c1_i32_72 : BitVec 32 := 1#32
  let v65 : BitVec 32 := Scalar.subi v64 c1_i32_72
  let v66 : BitVec 32 := Scalar.subi v65 c0_i32_73
  let c4_i32_74 : BitVec 32 := 4#32
  let v67 : BitVec 32 := Scalar.remsi v66 c4_i32_74
  let c2048_i32_78 : BitVec 32 := 2048#32
  let v71 : BitVec 32 := Scalar.muli v67 c2048_i32_78
  let c0_i32_79 : BitVec 32 := 0#32
  let v72 : BitVec 32 := Scalar.addi v71 c0_i32_79
  let v73 : BitVec 32 := Scalar.addi v72 c0_i32_80
  let c0_i32_85 : BitVec 32 := 0#32
  ![v73.toNat, 0]
def k0_off3 (d0 : Dev nD) (c0_i32_75 : BitVec 32) (c0_i32_88 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v68 : BitVec 32 := Scalar.addi v2 c0_i32_75
  let c1_i32_76 : BitVec 32 := 1#32
  let v69 : BitVec 32 := Scalar.addi v68 c1_i32_76
  let c4_i32_77 : BitVec 32 := 4#32
  let v70 : BitVec 32 := Scalar.remsi v69 c4_i32_77
  let c2048_i32_86 : BitVec 32 := 2048#32
  let v79 : BitVec 32 := Scalar.muli v70 c2048_i32_86
  let c1024_i32_87 : BitVec 32 := 1024#32
  let v80 : BitVec 32 := Scalar.addi v79 c1024_i32_87
  let v81 : BitVec 32 := Scalar.addi v80 c0_i32_88
  let c0_i32_93 : BitVec 32 := 0#32
  ![v81.toNat, 0]
def k0_dev5 (d0 : Dev nD) : Nat :=
  let c0_i32_132 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_131 : BitVec 32 := 1#32
  let v113 : BitVec 32 := Scalar.muli v4 c1_i32_131
  let v114 : BitVec 32 := Scalar.addi c0_i32_132 v113
  v114.toNat
def k0_dev6 (d0 : Dev nD) : Nat :=
  let c0_i32_146 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_145 : BitVec 32 := 1#32
  let v123 : BitVec 32 := Scalar.muli v7 c1_i32_145
  let v124 : BitVec 32 := Scalar.addi c0_i32_146 v123
  v124.toNat
def k0_dev7 (d0 : Dev nD) : Nat :=
  let c0_i32_230 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_229 : BitVec 32 := 1#32
  let v184 : BitVec 32 := Scalar.muli v7 c1_i32_229
  let v185 : BitVec 32 := Scalar.addi c0_i32_230 v184
  v185.toNat
def k0_dev8 (d0 : Dev nD) : Nat :=
  let c0_i32_233 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_232 : BitVec 32 := 1#32
  let v186 : BitVec 32 := Scalar.muli v4 c1_i32_232
  let v187 : BitVec 32 := Scalar.addi c0_i32_233 v186
  v187.toNat
def k0_dev9 (d0 : Dev nD) : Nat :=
  let c0_i32_277 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_276 : BitVec 32 := 1#32
  let v214 : BitVec 32 := Scalar.muli v4 c1_i32_276
  let v215 : BitVec 32 := Scalar.addi c0_i32_277 v214
  v215.toNat
def k0_dev10 (d0 : Dev nD) : Nat :=
  let c0_i32_291 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_290 : BitVec 32 := 1#32
  let v224 : BitVec 32 := Scalar.muli v7 c1_i32_290
  let v225 : BitVec 32 := Scalar.addi c0_i32_291 v224
  v225.toNat
def k0_dev11 (d0 : Dev nD) : Nat :=
  let c0_i32_375 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_374 : BitVec 32 := 1#32
  let v285 : BitVec 32 := Scalar.muli v7 c1_i32_374
  let v286 : BitVec 32 := Scalar.addi c0_i32_375 v285
  v286.toNat
def k0_dev12 (d0 : Dev nD) : Nat :=
  let c0_i32_378 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_377 : BitVec 32 := 1#32
  let v287 : BitVec 32 := Scalar.muli v4 c1_i32_377
  let v288 : BitVec 32 := Scalar.addi c0_i32_378 v287
  v288.toNat
def k0_dev13 (d0 : Dev nD) : Nat :=
  let c0_i32_424 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_423 : BitVec 32 := 1#32
  let v315 : BitVec 32 := Scalar.muli v4 c1_i32_423
  let v316 : BitVec 32 := Scalar.addi c0_i32_424 v315
  v316.toNat
def k0_dev14 (d0 : Dev nD) : Nat :=
  let c0_i32_438 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_437 : BitVec 32 := 1#32
  let v325 : BitVec 32 := Scalar.muli v7 c1_i32_437
  let v326 : BitVec 32 := Scalar.addi c0_i32_438 v325
  v326.toNat
def k0_dev15 (d0 : Dev nD) : Nat :=
  let c0_i32_522 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_521 : BitVec 32 := 1#32
  let v386 : BitVec 32 := Scalar.muli v7 c1_i32_521
  let v387 : BitVec 32 := Scalar.addi c0_i32_522 v386
  v387.toNat
def k0_dev16 (d0 : Dev nD) : Nat :=
  let c0_i32_525 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_524 : BitVec 32 := 1#32
  let v388 : BitVec 32 := Scalar.muli v4 c1_i32_524
  let v389 : BitVec 32 := Scalar.addi c0_i32_525 v388
  v389.toNat
def k0_dev17 (d0 : Dev nD) : Nat :=
  let c0_i32_571 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_570 : BitVec 32 := 1#32
  let v416 : BitVec 32 := Scalar.muli v4 c1_i32_570
  let v417 : BitVec 32 := Scalar.addi c0_i32_571 v416
  v417.toNat
def k0_dev18 (d0 : Dev nD) : Nat :=
  let c0_i32_585 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_584 : BitVec 32 := 1#32
  let v426 : BitVec 32 := Scalar.muli v7 c1_i32_584
  let v427 : BitVec 32 := Scalar.addi c0_i32_585 v426
  v427.toNat
def k0_dev19 (d0 : Dev nD) : Nat :=
  let c0_i32_669 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_668 : BitVec 32 := 1#32
  let v487 : BitVec 32 := Scalar.muli v7 c1_i32_668
  let v488 : BitVec 32 := Scalar.addi c0_i32_669 v487
  v488.toNat
def k0_dev20 (d0 : Dev nD) : Nat :=
  let c0_i32_672 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_671 : BitVec 32 := 1#32
  let v489 : BitVec 32 := Scalar.muli v4 c1_i32_671
  let v490 : BitVec 32 := Scalar.addi c0_i32_672 v489
  v490.toNat
def k0_dev21 (d0 : Dev nD) : Nat :=
  let c0_i32_718 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_717 : BitVec 32 := 1#32
  let v517 : BitVec 32 := Scalar.muli v4 c1_i32_717
  let v518 : BitVec 32 := Scalar.addi c0_i32_718 v517
  v518.toNat
def k0_dev22 (d0 : Dev nD) : Nat :=
  let c0_i32_732 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_731 : BitVec 32 := 1#32
  let v527 : BitVec 32 := Scalar.muli v7 c1_i32_731
  let v528 : BitVec 32 := Scalar.addi c0_i32_732 v527
  v528.toNat
def k0_dev23 (d0 : Dev nD) : Nat :=
  let c0_i32_816 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_815 : BitVec 32 := 1#32
  let v588 : BitVec 32 := Scalar.muli v7 c1_i32_815
  let v589 : BitVec 32 := Scalar.addi c0_i32_816 v588
  v589.toNat
def k0_dev24 (d0 : Dev nD) : Nat :=
  let c0_i32_819 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_818 : BitVec 32 := 1#32
  let v590 : BitVec 32 := Scalar.muli v4 c1_i32_818
  let v591 : BitVec 32 := Scalar.addi c0_i32_819 v590
  v591.toNat
def k0_off4 (d0 : Dev nD) (c1_i32_5 : BitVec 32) (c0_i32_853 : BitVec 32) (c0_i32_854 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v8 : BitVec 32 := Scalar.addi v2 c1_i32_5
  let c4_i32_6 : BitVec 32 := 4#32
  let v9 : BitVec 32 := Scalar.remsi v8 c4_i32_6
  let c2048_i32_852 : BitVec 32 := 2048#32
  let v618 : BitVec 32 := Scalar.muli v9 c2048_i32_852
  let v619 : BitVec 32 := Scalar.addi v618 c0_i32_853
  let v620 : BitVec 32 := Scalar.addi v619 c0_i32_854
  let c0_i32_859 : BitVec 32 := 0#32
  ![v620.toNat, 0]
def k0_off4_at (r : Fin 16) : BitVec 32 × BitVec 32 × BitVec 32 :=
  if r.val < 8 then
    if r.val < 4 then
      if r.val < 2 then
        if r.val < 1 then
          (1#32, 0#32, 0#32)
        else
          (1#32, 0#32, 512#32)
      else
        if r.val < 3 then
          (0#32, 1024#32, 0#32)
        else
          (0#32, 1024#32, 512#32)
    else
      if r.val < 6 then
        if r.val < 5 then
          (1#32, 1024#32, 0#32)
        else
          (1#32, 1024#32, 512#32)
      else
        if r.val < 7 then
          (2#32, 1024#32, 0#32)
        else
          (2#32, 1024#32, 512#32)
  else
    if r.val < 12 then
      if r.val < 10 then
        if r.val < 9 then
          (1#32, 0#32, 256#32)
        else
          (1#32, 0#32, 768#32)
      else
        if r.val < 11 then
          (0#32, 1024#32, 256#32)
        else
          (0#32, 1024#32, 768#32)
    else
      if r.val < 14 then
        if r.val < 13 then
          (1#32, 1024#32, 256#32)
        else
          (1#32, 1024#32, 768#32)
      else
        if r.val < 15 then
          (2#32, 1024#32, 256#32)
        else
          (2#32, 1024#32, 768#32)
def k0_off5 (d0 : Dev nD) (c1_i32_8 : BitVec 32) (c1024_i32_861 : BitVec 32) (c0_i32_862 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_7 : BitVec 32 := 4#32
  let v10 : BitVec 32 := Scalar.addi v2 c4_i32_7
  let v11 : BitVec 32 := Scalar.subi v10 c1_i32_8
  let c4_i32_9 : BitVec 32 := 4#32
  let v12 : BitVec 32 := Scalar.remsi v11 c4_i32_9
  let c2048_i32_860 : BitVec 32 := 2048#32
  let v626 : BitVec 32 := Scalar.muli v12 c2048_i32_860
  let v627 : BitVec 32 := Scalar.addi v626 c1024_i32_861
  let v628 : BitVec 32 := Scalar.addi v627 c0_i32_862
  let c0_i32_867 : BitVec 32 := 0#32
  ![v628.toNat, 0]
def k0_off5_at (r : Fin 16) : BitVec 32 × BitVec 32 × BitVec 32 :=
  if r.val < 8 then
    if r.val < 4 then
      if r.val < 2 then
        if r.val < 1 then
          (1#32, 1024#32, 0#32)
        else
          (1#32, 1024#32, 512#32)
      else
        if r.val < 3 then
          (0#32, 0#32, 0#32)
        else
          (0#32, 0#32, 512#32)
    else
      if r.val < 6 then
        if r.val < 5 then
          (1#32, 0#32, 0#32)
        else
          (1#32, 0#32, 512#32)
      else
        if r.val < 7 then
          (2#32, 0#32, 0#32)
        else
          (2#32, 0#32, 512#32)
  else
    if r.val < 12 then
      if r.val < 10 then
        if r.val < 9 then
          (1#32, 1024#32, 256#32)
        else
          (1#32, 1024#32, 768#32)
      else
        if r.val < 11 then
          (0#32, 0#32, 256#32)
        else
          (0#32, 0#32, 768#32)
    else
      if r.val < 14 then
        if r.val < 13 then
          (1#32, 0#32, 256#32)
        else
          (1#32, 0#32, 768#32)
      else
        if r.val < 15 then
          (2#32, 0#32, 256#32)
        else
          (2#32, 0#32, 768#32)
def k0_dev25 (d0 : Dev nD) : Nat :=
  let c0_i32_940 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_939 : BitVec 32 := 1#32
  let v704 : BitVec 32 := Scalar.muli v4 c1_i32_939
  let v705 : BitVec 32 := Scalar.addi c0_i32_940 v704
  v705.toNat
def k0_dev26 (d0 : Dev nD) : Nat :=
  let c0_i32_954 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_953 : BitVec 32 := 1#32
  let v714 : BitVec 32 := Scalar.muli v7 c1_i32_953
  let v715 : BitVec 32 := Scalar.addi c0_i32_954 v714
  v715.toNat
def k0_dev27 (d0 : Dev nD) : Nat :=
  let c0_i32_1015 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1014 : BitVec 32 := 1#32
  let v752 : BitVec 32 := Scalar.muli v7 c1_i32_1014
  let v753 : BitVec 32 := Scalar.addi c0_i32_1015 v752
  v753.toNat
def k0_dev28 (d0 : Dev nD) : Nat :=
  let c0_i32_1018 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1017 : BitVec 32 := 1#32
  let v754 : BitVec 32 := Scalar.muli v4 c1_i32_1017
  let v755 : BitVec 32 := Scalar.addi c0_i32_1018 v754
  v755.toNat
def k0_dev29 (d0 : Dev nD) : Nat :=
  let c0_i32_1140 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1139 : BitVec 32 := 1#32
  let v868 : BitVec 32 := Scalar.muli v4 c1_i32_1139
  let v869 : BitVec 32 := Scalar.addi c0_i32_1140 v868
  v869.toNat
def k0_dev30 (d0 : Dev nD) : Nat :=
  let c0_i32_1154 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1153 : BitVec 32 := 1#32
  let v878 : BitVec 32 := Scalar.muli v7 c1_i32_1153
  let v879 : BitVec 32 := Scalar.addi c0_i32_1154 v878
  v879.toNat
def k0_dev31 (d0 : Dev nD) : Nat :=
  let c0_i32_1227 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1226 : BitVec 32 := 1#32
  let v926 : BitVec 32 := Scalar.muli v7 c1_i32_1226
  let v927 : BitVec 32 := Scalar.addi c0_i32_1227 v926
  v927.toNat
def k0_dev32 (d0 : Dev nD) : Nat :=
  let c0_i32_1230 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1229 : BitVec 32 := 1#32
  let v928 : BitVec 32 := Scalar.muli v4 c1_i32_1229
  let v929 : BitVec 32 := Scalar.addi c0_i32_1230 v928
  v929.toNat
def k0_dev33 (d0 : Dev nD) : Nat :=
  let c0_i32_1267 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1266 : BitVec 32 := 1#32
  let v951 : BitVec 32 := Scalar.muli v4 c1_i32_1266
  let v952 : BitVec 32 := Scalar.addi c0_i32_1267 v951
  v952.toNat
def k0_dev34 (d0 : Dev nD) : Nat :=
  let c0_i32_1281 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1280 : BitVec 32 := 1#32
  let v961 : BitVec 32 := Scalar.muli v7 c1_i32_1280
  let v962 : BitVec 32 := Scalar.addi c0_i32_1281 v961
  v962.toNat
def k0_dev35 (d0 : Dev nD) : Nat :=
  let c0_i32_1354 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1353 : BitVec 32 := 1#32
  let v1009 : BitVec 32 := Scalar.muli v7 c1_i32_1353
  let v1010 : BitVec 32 := Scalar.addi c0_i32_1354 v1009
  v1010.toNat
def k0_dev36 (d0 : Dev nD) : Nat :=
  let c0_i32_1357 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1356 : BitVec 32 := 1#32
  let v1011 : BitVec 32 := Scalar.muli v4 c1_i32_1356
  let v1012 : BitVec 32 := Scalar.addi c0_i32_1357 v1011
  v1012.toNat
def k0_dev37 (d0 : Dev nD) : Nat :=
  let c0_i32_1394 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1393 : BitVec 32 := 1#32
  let v1034 : BitVec 32 := Scalar.muli v4 c1_i32_1393
  let v1035 : BitVec 32 := Scalar.addi c0_i32_1394 v1034
  v1035.toNat
def k0_dev38 (d0 : Dev nD) : Nat :=
  let c0_i32_1408 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1407 : BitVec 32 := 1#32
  let v1044 : BitVec 32 := Scalar.muli v7 c1_i32_1407
  let v1045 : BitVec 32 := Scalar.addi c0_i32_1408 v1044
  v1045.toNat
def k0_dev39 (d0 : Dev nD) : Nat :=
  let c0_i32_1481 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1480 : BitVec 32 := 1#32
  let v1092 : BitVec 32 := Scalar.muli v7 c1_i32_1480
  let v1093 : BitVec 32 := Scalar.addi c0_i32_1481 v1092
  v1093.toNat
def k0_dev40 (d0 : Dev nD) : Nat :=
  let c0_i32_1484 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1483 : BitVec 32 := 1#32
  let v1094 : BitVec 32 := Scalar.muli v4 c1_i32_1483
  let v1095 : BitVec 32 := Scalar.addi c0_i32_1484 v1094
  v1095.toNat
def k0_dev41 (d0 : Dev nD) : Nat :=
  let c0_i32_1521 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1520 : BitVec 32 := 1#32
  let v1117 : BitVec 32 := Scalar.muli v4 c1_i32_1520
  let v1118 : BitVec 32 := Scalar.addi c0_i32_1521 v1117
  v1118.toNat
def k0_dev42 (d0 : Dev nD) : Nat :=
  let c0_i32_1535 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1534 : BitVec 32 := 1#32
  let v1127 : BitVec 32 := Scalar.muli v7 c1_i32_1534
  let v1128 : BitVec 32 := Scalar.addi c0_i32_1535 v1127
  v1128.toNat
def k0_dev43 (d0 : Dev nD) : Nat :=
  let c0_i32_1608 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1607 : BitVec 32 := 1#32
  let v1175 : BitVec 32 := Scalar.muli v7 c1_i32_1607
  let v1176 : BitVec 32 := Scalar.addi c0_i32_1608 v1175
  v1176.toNat
def k0_dev44 (d0 : Dev nD) : Nat :=
  let c0_i32_1611 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1610 : BitVec 32 := 1#32
  let v1177 : BitVec 32 := Scalar.muli v4 c1_i32_1610
  let v1178 : BitVec 32 := Scalar.addi c0_i32_1611 v1177
  v1178.toNat
def k0_dev45 (d0 : Dev nD) : Nat :=
  let c0_i32_1648 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1647 : BitVec 32 := 1#32
  let v1200 : BitVec 32 := Scalar.muli v4 c1_i32_1647
  let v1201 : BitVec 32 := Scalar.addi c0_i32_1648 v1200
  v1201.toNat
def k0_dev46 (d0 : Dev nD) : Nat :=
  let c0_i32_1662 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1661 : BitVec 32 := 1#32
  let v1210 : BitVec 32 := Scalar.muli v7 c1_i32_1661
  let v1211 : BitVec 32 := Scalar.addi c0_i32_1662 v1210
  v1211.toNat
def k0_dev47 (d0 : Dev nD) : Nat :=
  let c0_i32_1735 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1734 : BitVec 32 := 1#32
  let v1258 : BitVec 32 := Scalar.muli v7 c1_i32_1734
  let v1259 : BitVec 32 := Scalar.addi c0_i32_1735 v1258
  v1259.toNat
def k0_dev48 (d0 : Dev nD) : Nat :=
  let c0_i32_1738 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1737 : BitVec 32 := 1#32
  let v1260 : BitVec 32 := Scalar.muli v4 c1_i32_1737
  let v1261 : BitVec 32 := Scalar.addi c0_i32_1738 v1260
  v1261.toNat
def k0_dev49 (d0 : Dev nD) : Nat :=
  let c0_i32_1816 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1815 : BitVec 32 := 1#32
  let v1319 : BitVec 32 := Scalar.muli v4 c1_i32_1815
  let v1320 : BitVec 32 := Scalar.addi c0_i32_1816 v1319
  v1320.toNat
def k0_dev50 (d0 : Dev nD) : Nat :=
  let c0_i32_1830 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1829 : BitVec 32 := 1#32
  let v1329 : BitVec 32 := Scalar.muli v7 c1_i32_1829
  let v1330 : BitVec 32 := Scalar.addi c0_i32_1830 v1329
  v1330.toNat
def k0_dev51 (d0 : Dev nD) : Nat :=
  let c0_i32_1926 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1925 : BitVec 32 := 1#32
  let v1400 : BitVec 32 := Scalar.muli v7 c1_i32_1925
  let v1401 : BitVec 32 := Scalar.addi c0_i32_1926 v1400
  v1401.toNat
def k0_dev52 (d0 : Dev nD) : Nat :=
  let c0_i32_1929 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1928 : BitVec 32 := 1#32
  let v1402 : BitVec 32 := Scalar.muli v4 c1_i32_1928
  let v1403 : BitVec 32 := Scalar.addi c0_i32_1929 v1402
  v1403.toNat
def k0_dev53 (d0 : Dev nD) : Nat :=
  let c0_i32_2007 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2006 : BitVec 32 := 1#32
  let v1461 : BitVec 32 := Scalar.muli v4 c1_i32_2006
  let v1462 : BitVec 32 := Scalar.addi c0_i32_2007 v1461
  v1462.toNat
def k0_dev54 (d0 : Dev nD) : Nat :=
  let c0_i32_2021 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2020 : BitVec 32 := 1#32
  let v1471 : BitVec 32 := Scalar.muli v7 c1_i32_2020
  let v1472 : BitVec 32 := Scalar.addi c0_i32_2021 v1471
  v1472.toNat
def k0_dev55 (d0 : Dev nD) : Nat :=
  let c0_i32_2105 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2104 : BitVec 32 := 1#32
  let v1532 : BitVec 32 := Scalar.muli v7 c1_i32_2104
  let v1533 : BitVec 32 := Scalar.addi c0_i32_2105 v1532
  v1533.toNat
def k0_dev56 (d0 : Dev nD) : Nat :=
  let c0_i32_2108 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2107 : BitVec 32 := 1#32
  let v1534 : BitVec 32 := Scalar.muli v4 c1_i32_2107
  let v1535 : BitVec 32 := Scalar.addi c0_i32_2108 v1534
  v1535.toNat
def k0_dev57 (d0 : Dev nD) : Nat :=
  let c0_i32_2154 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2153 : BitVec 32 := 1#32
  let v1562 : BitVec 32 := Scalar.muli v4 c1_i32_2153
  let v1563 : BitVec 32 := Scalar.addi c0_i32_2154 v1562
  v1563.toNat
def k0_dev58 (d0 : Dev nD) : Nat :=
  let c0_i32_2168 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2167 : BitVec 32 := 1#32
  let v1572 : BitVec 32 := Scalar.muli v7 c1_i32_2167
  let v1573 : BitVec 32 := Scalar.addi c0_i32_2168 v1572
  v1573.toNat
def k0_dev59 (d0 : Dev nD) : Nat :=
  let c0_i32_2252 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2251 : BitVec 32 := 1#32
  let v1633 : BitVec 32 := Scalar.muli v7 c1_i32_2251
  let v1634 : BitVec 32 := Scalar.addi c0_i32_2252 v1633
  v1634.toNat
def k0_dev60 (d0 : Dev nD) : Nat :=
  let c0_i32_2255 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2254 : BitVec 32 := 1#32
  let v1635 : BitVec 32 := Scalar.muli v4 c1_i32_2254
  let v1636 : BitVec 32 := Scalar.addi c0_i32_2255 v1635
  v1636.toNat
def k0_dev61 (d0 : Dev nD) : Nat :=
  let c0_i32_2301 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2300 : BitVec 32 := 1#32
  let v1663 : BitVec 32 := Scalar.muli v4 c1_i32_2300
  let v1664 : BitVec 32 := Scalar.addi c0_i32_2301 v1663
  v1664.toNat
def k0_dev62 (d0 : Dev nD) : Nat :=
  let c0_i32_2315 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2314 : BitVec 32 := 1#32
  let v1673 : BitVec 32 := Scalar.muli v7 c1_i32_2314
  let v1674 : BitVec 32 := Scalar.addi c0_i32_2315 v1673
  v1674.toNat
def k0_dev63 (d0 : Dev nD) : Nat :=
  let c0_i32_2399 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2398 : BitVec 32 := 1#32
  let v1734 : BitVec 32 := Scalar.muli v7 c1_i32_2398
  let v1735 : BitVec 32 := Scalar.addi c0_i32_2399 v1734
  v1735.toNat
def k0_dev64 (d0 : Dev nD) : Nat :=
  let c0_i32_2402 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2401 : BitVec 32 := 1#32
  let v1736 : BitVec 32 := Scalar.muli v4 c1_i32_2401
  let v1737 : BitVec 32 := Scalar.addi c0_i32_2402 v1736
  v1737.toNat
def k0_dev65 (d0 : Dev nD) : Nat :=
  let c0_i32_2448 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2447 : BitVec 32 := 1#32
  let v1764 : BitVec 32 := Scalar.muli v4 c1_i32_2447
  let v1765 : BitVec 32 := Scalar.addi c0_i32_2448 v1764
  v1765.toNat
def k0_dev66 (d0 : Dev nD) : Nat :=
  let c0_i32_2462 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2461 : BitVec 32 := 1#32
  let v1774 : BitVec 32 := Scalar.muli v7 c1_i32_2461
  let v1775 : BitVec 32 := Scalar.addi c0_i32_2462 v1774
  v1775.toNat
def k0_dev67 (d0 : Dev nD) : Nat :=
  let c0_i32_2546 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2545 : BitVec 32 := 1#32
  let v1835 : BitVec 32 := Scalar.muli v7 c1_i32_2545
  let v1836 : BitVec 32 := Scalar.addi c0_i32_2546 v1835
  v1836.toNat
def k0_dev68 (d0 : Dev nD) : Nat :=
  let c0_i32_2549 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2548 : BitVec 32 := 1#32
  let v1837 : BitVec 32 := Scalar.muli v4 c1_i32_2548
  let v1838 : BitVec 32 := Scalar.addi c0_i32_2549 v1837
  v1838.toNat
def k0_dev69 (d0 : Dev nD) : Nat :=
  let c0_i32_2595 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2594 : BitVec 32 := 1#32
  let v1865 : BitVec 32 := Scalar.muli v4 c1_i32_2594
  let v1866 : BitVec 32 := Scalar.addi c0_i32_2595 v1865
  v1866.toNat
def k0_dev70 (d0 : Dev nD) : Nat :=
  let c0_i32_2609 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2608 : BitVec 32 := 1#32
  let v1875 : BitVec 32 := Scalar.muli v7 c1_i32_2608
  let v1876 : BitVec 32 := Scalar.addi c0_i32_2609 v1875
  v1876.toNat
def k0_dev71 (d0 : Dev nD) : Nat :=
  let c0_i32_2693 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2692 : BitVec 32 := 1#32
  let v1936 : BitVec 32 := Scalar.muli v7 c1_i32_2692
  let v1937 : BitVec 32 := Scalar.addi c0_i32_2693 v1936
  v1937.toNat
def k0_dev72 (d0 : Dev nD) : Nat :=
  let c0_i32_2696 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2695 : BitVec 32 := 1#32
  let v1938 : BitVec 32 := Scalar.muli v4 c1_i32_2695
  let v1939 : BitVec 32 := Scalar.addi c0_i32_2696 v1938
  v1939.toNat
def k0_dev73 (d0 : Dev nD) : Nat :=
  let c0_i32_2818 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2817 : BitVec 32 := 1#32
  let v2052 : BitVec 32 := Scalar.muli v4 c1_i32_2817
  let v2053 : BitVec 32 := Scalar.addi c0_i32_2818 v2052
  v2053.toNat
def k0_dev74 (d0 : Dev nD) : Nat :=
  let c0_i32_2832 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2831 : BitVec 32 := 1#32
  let v2062 : BitVec 32 := Scalar.muli v7 c1_i32_2831
  let v2063 : BitVec 32 := Scalar.addi c0_i32_2832 v2062
  v2063.toNat
def k0_dev75 (d0 : Dev nD) : Nat :=
  let c0_i32_2893 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2892 : BitVec 32 := 1#32
  let v2100 : BitVec 32 := Scalar.muli v7 c1_i32_2892
  let v2101 : BitVec 32 := Scalar.addi c0_i32_2893 v2100
  v2101.toNat
def k0_dev76 (d0 : Dev nD) : Nat :=
  let c0_i32_2896 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2895 : BitVec 32 := 1#32
  let v2102 : BitVec 32 := Scalar.muli v4 c1_i32_2895
  let v2103 : BitVec 32 := Scalar.addi c0_i32_2896 v2102
  v2103.toNat
def k0_dev77 (d0 : Dev nD) : Nat :=
  let c0_i32_3018 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_3017 : BitVec 32 := 1#32
  let v2216 : BitVec 32 := Scalar.muli v4 c1_i32_3017
  let v2217 : BitVec 32 := Scalar.addi c0_i32_3018 v2216
  v2217.toNat
def k0_dev78 (d0 : Dev nD) : Nat :=
  let c0_i32_3032 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_3031 : BitVec 32 := 1#32
  let v2226 : BitVec 32 := Scalar.muli v7 c1_i32_3031
  let v2227 : BitVec 32 := Scalar.addi c0_i32_3032 v2226
  v2227.toNat
def k0_dev79 (d0 : Dev nD) : Nat :=
  let c0_i32_3105 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_3104 : BitVec 32 := 1#32
  let v2274 : BitVec 32 := Scalar.muli v7 c1_i32_3104
  let v2275 : BitVec 32 := Scalar.addi c0_i32_3105 v2274
  v2275.toNat
def k0_dev80 (d0 : Dev nD) : Nat :=
  let c0_i32_3108 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_3107 : BitVec 32 := 1#32
  let v2276 : BitVec 32 := Scalar.muli v4 c1_i32_3107
  let v2277 : BitVec 32 := Scalar.addi c0_i32_3108 v2276
  v2277.toNat
def k0_dev81 (d0 : Dev nD) : Nat :=
  let c0_i32_3145 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_3144 : BitVec 32 := 1#32
  let v2299 : BitVec 32 := Scalar.muli v4 c1_i32_3144
  let v2300 : BitVec 32 := Scalar.addi c0_i32_3145 v2299
  v2300.toNat
def k0_dev82 (d0 : Dev nD) : Nat :=
  let c0_i32_3159 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_3158 : BitVec 32 := 1#32
  let v2309 : BitVec 32 := Scalar.muli v7 c1_i32_3158
  let v2310 : BitVec 32 := Scalar.addi c0_i32_3159 v2309
  v2310.toNat
def k0_dev83 (d0 : Dev nD) : Nat :=
  let c0_i32_3232 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_3231 : BitVec 32 := 1#32
  let v2357 : BitVec 32 := Scalar.muli v7 c1_i32_3231
  let v2358 : BitVec 32 := Scalar.addi c0_i32_3232 v2357
  v2358.toNat
def k0_dev84 (d0 : Dev nD) : Nat :=
  let c0_i32_3235 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_3234 : BitVec 32 := 1#32
  let v2359 : BitVec 32 := Scalar.muli v4 c1_i32_3234
  let v2360 : BitVec 32 := Scalar.addi c0_i32_3235 v2359
  v2360.toNat
def k0_dev85 (d0 : Dev nD) : Nat :=
  let c0_i32_3272 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_3271 : BitVec 32 := 1#32
  let v2382 : BitVec 32 := Scalar.muli v4 c1_i32_3271
  let v2383 : BitVec 32 := Scalar.addi c0_i32_3272 v2382
  v2383.toNat
def k0_dev86 (d0 : Dev nD) : Nat :=
  let c0_i32_3286 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_3285 : BitVec 32 := 1#32
  let v2392 : BitVec 32 := Scalar.muli v7 c1_i32_3285
  let v2393 : BitVec 32 := Scalar.addi c0_i32_3286 v2392
  v2393.toNat
def k0_dev87 (d0 : Dev nD) : Nat :=
  let c0_i32_3359 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_3358 : BitVec 32 := 1#32
  let v2440 : BitVec 32 := Scalar.muli v7 c1_i32_3358
  let v2441 : BitVec 32 := Scalar.addi c0_i32_3359 v2440
  v2441.toNat
def k0_dev88 (d0 : Dev nD) : Nat :=
  let c0_i32_3362 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_3361 : BitVec 32 := 1#32
  let v2442 : BitVec 32 := Scalar.muli v4 c1_i32_3361
  let v2443 : BitVec 32 := Scalar.addi c0_i32_3362 v2442
  v2443.toNat
def k0_dev89 (d0 : Dev nD) : Nat :=
  let c0_i32_3399 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_3398 : BitVec 32 := 1#32
  let v2465 : BitVec 32 := Scalar.muli v4 c1_i32_3398
  let v2466 : BitVec 32 := Scalar.addi c0_i32_3399 v2465
  v2466.toNat
def k0_dev90 (d0 : Dev nD) : Nat :=
  let c0_i32_3413 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_3412 : BitVec 32 := 1#32
  let v2475 : BitVec 32 := Scalar.muli v7 c1_i32_3412
  let v2476 : BitVec 32 := Scalar.addi c0_i32_3413 v2475
  v2476.toNat
def k0_dev91 (d0 : Dev nD) : Nat :=
  let c0_i32_3486 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_3485 : BitVec 32 := 1#32
  let v2523 : BitVec 32 := Scalar.muli v7 c1_i32_3485
  let v2524 : BitVec 32 := Scalar.addi c0_i32_3486 v2523
  v2524.toNat
def k0_dev92 (d0 : Dev nD) : Nat :=
  let c0_i32_3489 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_3488 : BitVec 32 := 1#32
  let v2525 : BitVec 32 := Scalar.muli v4 c1_i32_3488
  let v2526 : BitVec 32 := Scalar.addi c0_i32_3489 v2525
  v2526.toNat
def k0_dev93 (d0 : Dev nD) : Nat :=
  let c0_i32_3526 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_3525 : BitVec 32 := 1#32
  let v2548 : BitVec 32 := Scalar.muli v4 c1_i32_3525
  let v2549 : BitVec 32 := Scalar.addi c0_i32_3526 v2548
  v2549.toNat
def k0_dev94 (d0 : Dev nD) : Nat :=
  let c0_i32_3540 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_3539 : BitVec 32 := 1#32
  let v2558 : BitVec 32 := Scalar.muli v7 c1_i32_3539
  let v2559 : BitVec 32 := Scalar.addi c0_i32_3540 v2558
  v2559.toNat
abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x8192x2048 : Shape := ⟨3, ![4, 8192, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S8192x2048, .f32⟩
  | .hbm, ⟨2, _⟩ => ⟨S2048, .f32⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.K.Prog.lean ====
module

public import proofs.«01_k».proof.Proof.Gen.Kernel

@[expose] public section

noncomputable section

namespace Cert.Kernel.Ring

open Idealize.ShloMosaic Idealize.SL.Sem
open Cert.Kernel Cert.Kernel.Gen

variable {F : FTy → Type} [FloatOps F]

/-- The type of the kernel's programs. -/
abbrev Pg (F : FTy → Type) [FloatOps F] (α : Type) : Type _ := Prog (TpuEff nD τ sig (Elt F) Λ₀ .tc) α

/-! ## The buffers and semaphores of a chain

A chain is a direction (`false`: to the right neighbour, `true`: to the left one) and a lane. -/

/-- Where 256 rows of an 8192-row array begin, with the fact that they lie inside. -/
@[ext] structure Off where
  o : Fin 2 → ℕ
  inb : ∀ a, o a + S256x2048.size a ≤ S8192x2048.size a

/-- The 256 rows of `M` from `o`. -/
abbrev rows (M : Memref sig .tc .hbm S8192x2048 .f32) (o : Off) : Memref sig .tc .hbm S256x2048 .f32 :=
  M.slice (Rect.unit (s := S8192x2048) o.o S256x2048.size o.inb) (fun _ => rfl)

theorem slot_inb (l s : Fin 2) : ∀ a, (![l.val, s.val, 0, 0] : Fin 4 → ℕ) a + S1x1x256x2048.size a ≤ S2x2x256x2048.size a := by
  revert l s; decide

theorem stg_inb (l : Fin 2) : ∀ a, (![l.val, 0, 0] : Fin 3 → ℕ) a + S1x256x2048.size a ≤ S2x256x2048.size a := by
  revert l; decide

theorem sem2_inb (l s : Fin 2) : ∀ a, (![l.val, s.val] : Fin 2 → ℕ) a + S1x1.size a ≤ S2x2.size a := by
  revert l s; decide

theorem sem1_inb (l : Fin 2) : ∀ a, (![l.val] : Fin 1 → ℕ) a + S1.size a ≤ S2.size a := by
  revert l; decide

/-- The ring buffer of a direction. -/
abbrev comm : Bool → Memref sig .tc .vmem S2x2x256x2048 .f32
  | false => Memref.whole cc0_scratch0
  | true => Memref.whole cc0_scratch1

/-- The staging buffer of a direction. -/
abbrev stage : Bool → Memref sig .tc .vmem S2x256x2048 .f32
  | false => Memref.whole cc0_scratch2
  | true => Memref.whole cc0_scratch3

/-- The rectangle of slot `s` of lane `l` in a ring buffer. -/
abbrev slotR (l s : Fin 2) : Rect S2x2x256x2048 :=
  Rect.unit (s := S2x2x256x2048) ![l.val, s.val, 0, 0] S1x1x256x2048.size (slot_inb l s)

/-- The rectangle of lane `l` in a staging buffer. -/
abbrev stgR (l : Fin 2) : Rect S2x256x2048 :=
  Rect.unit (s := S2x256x2048) ![l.val, 0, 0] S1x256x2048.size (stg_inb l)

/-- Slot `s` of lane `l` of the ring buffer of direction `d`. -/
abbrev slot (d : Bool) (l s : Fin 2) : Memref sig .tc .vmem S256x2048 .f32 :=
  ((comm d).slice (slotR l s) (fun _ => rfl)).squeeze S256x2048 squeezes_S1x1x256x2048_S256x2048

/-- Lane `l` of the staging buffer of direction `d`. -/
abbrev stg (d : Bool) (l : Fin 2) : Memref sig .tc .vmem S256x2048 .f32 :=
  ((stage d).slice (stgR l) (fun _ => rfl)).squeeze S256x2048 squeezes_S1x256x2048_S256x2048

abbrev sem2 (A : DmaSems sig S2x2) (l s : Fin 2) : DmaSem sig :=
  ((A.slice (Rect.unit (s := S2x2) ![l.val, s.val] S1x1.size (sem2_inb l s))).squeeze S_ squeezes_S1x1_S_).sem

abbrev sem1 (A : DmaSems sig S2) (l : Fin 2) : DmaSem sig :=
  ((A.slice (Rect.unit (s := S2) ![l.val] S1.size (sem1_inb l))).squeeze S_ squeezes_S1_S_).sem

/-- The semaphore a slot's departure raises. -/
abbrev sendS : Bool → Fin 2 → Fin 2 → DmaSem sig
  | false => sem2 cc0_scratch4
  | true => sem2 cc0_scratch6

/-- The semaphore a slot's arrival raises. -/
abbrev recvS : Bool → Fin 2 → Fin 2 → DmaSem sig
  | false => sem2 cc0_scratch5
  | true => sem2 cc0_scratch7

/-- The semaphore of a lane's loads. -/
abbrev locS : Bool → Fin 2 → DmaSem sig
  | false => sem1 cc0_scratch8
  | true => sem1 cc0_scratch9

/-- The semaphore of a lane's stores to the result. -/
abbrev outS : Bool → Fin 2 → DmaSem sig
  | false => sem1 cc0_scratch10
  | true => sem1 cc0_scratch11

/-- The semaphore by which a chain's receiver lets its sender go on. -/
abbrev crdS : Bool → Fin 2 → Sem sig
  | false, 0 => cc0_scratch12.sem
  | false, 1 => cc0_scratch13.sem
  | true, 0 => cc0_scratch14.sem
  | true, 1 => cc0_scratch15.sem

/-- The runtime's barrier semaphore. -/
abbrev barS : Sem sig := (SemArray.scalar (sig.barrier 0 rfl) : Sems sig S_).sem

/-! ## What a device knows of its place: its neighbours and its row blocks -/

/-- The neighbours a device addresses and the row blocks it reads and writes. -/
structure Place where
  /-- The device a direction sends to. -/
  tgt : Bool → Dev nD
  /-- The device a direction receives from. -/
  frm : Bool → Dev nD
  /-- The device's own rows. -/
  own : Bool → Fin 4 → Off
  /-- The rows added at a step of the reduction. -/
  part : Bool → Fin 3 → Fin 4 → Off
  /-- The rows finished on the device. -/
  fin : Bool → Fin 4 → Off
  /-- The rows received finished. -/
  got : Bool → Fin 3 → Fin 4 → Off

/-! ## The program -/

section
variable (P : Place) (g : Memref sig .tc .vmem S1x2048 .f32)

/-- The number of a lane's row block of a generation. -/
abbrev sub (l v : Fin 2) : Fin 4 := ⟨2 * l.val + v.val, by omega⟩

/-- The sum of a slot's rows and a staging lane's. -/
abbrev addP (a : Vec F S1x1x256x2048 .f32) (b : Vec F S1x256x2048 .f32) : FVec F S256x2048 .f32 :=
  addf (shapeCast S256x2048 a shapeCasts_S1x1x256x2048_S256x2048) (shapeCast S256x2048 b shapeCasts_S1x256x2048_S256x2048)

/-- Rows written back to a slot. -/
abbrev backP (y : FVec F S256x2048 .f32) : FVec F S1x1x256x2048 .f32 :=
  shapeCast S1x1x256x2048 y shapeCasts_S256x2048_S1x1x256x2048

/-- Rows divided by their root mean square and scaled. -/
abbrev nrmP (y : FVec F S256x2048 .f32) (w : Vec F S1x2048 .f32) : FVec F S256x2048 .f32 :=
  mulf (divf y (broadcastTo S256x2048
      (sqrt (addf (divf (shapeCast S256x1 (multiReduction .add [1] S256 (mulf y y) 0x00000000#32 reduces_S256x2048_S256 (.inl rfl) rfl) shapeCasts_S256_S256x1)
          (broadcast S256x1 (Scalar.ofBits .f32 0x45000000#32))) (broadcast S256x1 (Scalar.ofBits .f32 0x358637BD#32))))
      broadcasts_S256x1_S256x2048))
    (broadcastTo S256x2048 (shapeCast S1x2048 w shapeCasts_S1x2048_S1x2048) broadcasts_S1x2048_S256x2048)

/-! Each operation takes what follows it. -/

/-- Begin storing slot `s` to the result. -/
def storeOut (d : Bool) (l s : Fin 2) (o : Off) (k : Pg F PUnit) : Pg F PUnit :=
  .op (.enqueueDma (slot d l s) (.here (rows (Memref.whole main_v3) o)) (.dma (outS d l)) ((View.wordExact_bits rfl).reshape _ _) (View.wordExact_bits rfl) ⟨Or.inl rfl, trivial⟩) fun _ => k

/-- Wait for the store begun last. -/
def storeWait (d : Bool) (l s : Fin 2) (o : Off) (k : Pg F PUnit) : Pg F PUnit :=
  .op (.waitDma2 (outS d l) (slot d l s) (rows (Memref.whole main_v3) o) ((View.wordExact_bits rfl).reshape _ _) (View.wordExact_bits rfl)) fun _ => k

/-- Begin loading rows of the device's summand into slot `s`. -/
def loadSlot (d : Bool) (l s : Fin 2) (o : Off) (k : Pg F PUnit) : Pg F PUnit :=
  .op (.enqueueDma (rows (Memref.whole main_v1) o) (.here (slot d l s)) (.dma (locS d l)) (View.wordExact_bits rfl) ((View.wordExact_bits rfl).reshape _ _) ⟨Or.inl rfl, trivial⟩) fun _ => k

/-- Wait for the load of a slot. -/
def loadSlotWait (d : Bool) (l s : Fin 2) (o : Off) (k : Pg F PUnit) : Pg F PUnit :=
  .op (.waitDma2 (locS d l) (rows (Memref.whole main_v1) o) (slot d l s) (View.wordExact_bits rfl) ((View.wordExact_bits rfl).reshape _ _)) fun _ => k

/-- Begin loading rows of `M` into the staging lane. -/
def loadStg (M : Memref sig .tc .hbm S8192x2048 .f32) (d : Bool) (l : Fin 2) (o : Off) (k : Pg F PUnit) : Pg F PUnit :=
  .op (.enqueueDma (rows M o) (.here (stg d l)) (.dma (locS d l)) (View.wordExact_bits rfl) ((View.wordExact_bits rfl).reshape _ _) ⟨Or.inl rfl, trivial⟩) fun _ => k

/-- Wait for the load of the staging lane. -/
def loadStgWait (M : Memref sig .tc .hbm S8192x2048 .f32) (d : Bool) (l : Fin 2) (o : Off) (k : Pg F PUnit) : Pg F PUnit :=
  .op (.waitDma2 (locS d l) (rows M o) (stg d l) (View.wordExact_bits rfl) ((View.wordExact_bits rfl).reshape _ _)) fun _ => k

/-- Begin sending slot `s` to the neighbour's slot `r`. -/
def send (d : Bool) (l s r : Fin 2) (k : Pg F PUnit) : Pg F PUnit :=
  .op (.enqueueDma (slot d l s) (.remote (Dev.tc (P.tgt d)) (slot d l r) (.dma (sendS d l s))) (.dma (recvS d l r)) ((View.wordExact_bits rfl).reshape _ _) ((View.wordExact_bits rfl).reshape _ _) ⟨⟨rfl, Or.inl rfl⟩, trivial⟩) fun _ => k

/-- Wait until slot `s` has left. -/
def sendWait (d : Bool) (l s r : Fin 2) (k : Pg F PUnit) : Pg F PUnit :=
  .op (.waitDma2 (sendS d l s) (slot d l r) (slot d l s) ((View.wordExact_bits rfl).reshape _ _) ((View.wordExact_bits rfl).reshape _ _)) fun _ => k

/-- Wait until slot `r` has arrived. -/
def recvWait (d : Bool) (l s r : Fin 2) (k : Pg F PUnit) : Pg F PUnit :=
  .op (.waitDma2 (recvS d l r) (slot d l s) (slot d l r) ((View.wordExact_bits rfl).reshape _ _) ((View.wordExact_bits rfl).reshape _ _)) fun _ => k

/-- Let the chain's sender go on. -/
def grant (d : Bool) (l : Fin 2) (k : Pg F PUnit) : Pg F PUnit :=
  .op (.semSignal (P.frm d, .tc) (crdS d l) (1#32 : BitVec 32).toInt) fun _ => k

/-- Wait to be let go on. -/
def grantWait (d : Bool) (l : Fin 2) (k : Pg F PUnit) : Pg F PUnit :=
  .op (.semWait (crdS d l) (1#32 : BitVec 32).toInt) fun _ => k

/-- Read slot `s`. -/
def ldSlot (d : Bool) (l s : Fin 2) (k : Vec F S1x1x256x2048 .f32 → Pg F PUnit) : Pg F PUnit :=
  .op (.load (comm d) (slotR l s).toLoadRect (View.loadsAt_vmem h_S1x1x256x2048)) k

/-- Read the staging lane. -/
def ldStg (d : Bool) (l : Fin 2) (k : Vec F S1x256x2048 .f32 → Pg F PUnit) : Pg F PUnit :=
  .op (.load (stage d) (stgR l).toLoadRect (View.loadsAt_vmem h_S1x256x2048)) k

/-- Read the scale. -/
def ldG (k : Vec F S1x2048 .f32 → Pg F PUnit) : Pg F PUnit :=
  .op (.load g (Rect.unit (s := S1x2048) ![0, 0] S1x2048.size inb_S1x2048_S1x2048_0_0).toLoadRect (View.loadsAt_vmem h_S1x2048)) k

/-- Write slot `s`. -/
def stSlot (d : Bool) (l s : Fin 2) (y : FVec F S1x1x256x2048 .f32) (k : Pg F PUnit) : Pg F PUnit :=
  .op (.store (comm d) (slotR l s) y Finset.univ (View.stores_vmem_bits_univ h_S1x1x256x2048 rfl) (.inl rfl)) fun _ => k

/-- Add the staging lane to slot `s`. -/
def accum (d : Bool) (l s : Fin 2) (k : Pg F PUnit) : Pg F PUnit :=
  ldSlot d l s fun a => ldStg d l fun b => ldSlot d l s fun _ => stSlot d l s (backP (addP a b)) k

/-- Add the staging lane to slot `s` and normalise. -/
def finish (d : Bool) (l s : Fin 2) (k : Pg F PUnit) : Pg F PUnit :=
  ldSlot d l s fun a => ldStg d l fun b => ldG g fun w => ldSlot d l s fun _ => stSlot d l s (backP (nrmP (addP a b) w)) k

/-- `f` where `p` holds. -/
def onlyIf (p : Prop) [Decidable p] (f : Pg F PUnit → Pg F PUnit) (k : Pg F PUnit) : Pg F PUnit :=
  if p then f k else k

/-- The step of a round. -/
abbrev tOf (G : ℕ) : ℕ := G % 6
/-- The generation of a round. -/
abbrev vOf (G : ℕ) : Fin 2 := ⟨G / 6 % 2, Nat.mod_lt _ (by decide)⟩
/-- The slot sent in a round. -/
abbrev sOf (G : ℕ) : Fin 2 := ⟨G % 2, Nat.mod_lt _ (by decide)⟩
/-- The slot received into in a round. -/
abbrev rOf (G : ℕ) : Fin 2 := ⟨(G + 1) % 2, Nat.mod_lt _ (by decide)⟩
/-- The step of a round within its half. -/
abbrev t3 (G : ℕ) : Fin 3 := ⟨G % 6 % 3, Nat.mod_lt _ (by decide)⟩

/-- The rows stored in a round. -/
abbrev outO (d : Bool) (l : Fin 2) (G : ℕ) : Off :=
  if tOf G < 3 then P.fin d (sub l (vOf G)) else P.got d (t3 G) (sub l (vOf G))

/-- Wait for the store begun in the round before `G`. -/
def drain (d : Bool) (l : Fin 2) (G : ℕ) (k : Pg F PUnit) : Pg F PUnit :=
  storeWait d l (sOf G) (outO P d l (G - 1)) k

/-- A lane's slots of a new generation take the device's own rows. -/
def refill (l : Fin 2) (G : ℕ) (k : Pg F PUnit) : Pg F PUnit :=
  onlyIf (G ≠ 0) (drain P false l G) <|
  loadSlot false l (sOf G) (P.own false (sub l (vOf G))) <|
  onlyIf (G ≠ 0) (drain P true l G) <|
  loadSlot true l (sOf G) (P.own true (sub l (vOf G))) <|
  loadSlotWait false l (sOf G) (P.own false (sub l (vOf G))) <|
  loadSlotWait true l (sOf G) (P.own true (sub l (vOf G))) k

/-- The first part of a lane's round: its slots leave. -/
def issue (l : Fin 2) (G : ℕ) (k : Pg F PUnit) : Pg F PUnit :=
  onlyIf (tOf G = 0) (refill P l G) <|
  onlyIf (1 ≤ G) (fun k => grantWait false l <| grantWait true l k) <|
  send P false l (sOf G) (rOf G) <|
  send P true l (sOf G) (rOf G) <|
  onlyIf (tOf G < 3) (fun k =>
    loadStg (Memref.whole main_v1) false l (P.part false (t3 G) (sub l (vOf G))) <|
    loadStg (Memref.whole main_v1) true l (P.part true (t3 G) (sub l (vOf G))) k) k

/-- The residual's rows are added, the sum normalised and stored. -/
def conclude (l : Fin 2) (G : ℕ) (k : Pg F PUnit) : Pg F PUnit :=
  loadStg (Memref.whole main_arg1) false l (P.fin false (sub l (vOf G))) <|
  loadStg (Memref.whole main_arg1) true l (P.fin true (sub l (vOf G))) <|
  loadStgWait (Memref.whole main_arg1) false l (P.fin false (sub l (vOf G))) <|
  loadStgWait (Memref.whole main_arg1) true l (P.fin true (sub l (vOf G))) <|
  finish g false l (rOf G) <|
  storeOut false l (rOf G) (P.fin false (sub l (vOf G))) <|
  finish g true l (rOf G) <|
  storeOut true l (rOf G) (P.fin true (sub l (vOf G))) k

/-- The second part of a lane's round, while sums are made: what arrived is added to. -/
def reduce (l : Fin 2) (G : ℕ) (k : Pg F PUnit) : Pg F PUnit :=
  loadStgWait (Memref.whole main_v1) false l (P.part false (t3 G) (sub l (vOf G))) <|
  accum false l (rOf G) <|
  loadStgWait (Memref.whole main_v1) true l (P.part true (t3 G) (sub l (vOf G))) <|
  accum true l (rOf G) <|
  onlyIf (tOf G = 2) (conclude P g l G) k

/-- The second part of a lane's round, while finished rows go round: what arrived is stored. -/
def spread (l : Fin 2) (G : ℕ) (k : Pg F PUnit) : Pg F PUnit :=
  storeOut false l (rOf G) (P.got false (t3 G) (sub l (vOf G))) <|
  storeOut true l (rOf G) (P.got true (t3 G) (sub l (vOf G))) k

/-- The second part of a lane's round: its slots have left and others have arrived. -/
def complete (l : Fin 2) (G : ℕ) (k : Pg F PUnit) : Pg F PUnit :=
  sendWait false l (sOf G) (rOf G) <|
  recvWait false l (sOf G) (rOf G) <|
  sendWait true l (sOf G) (rOf G) <|
  recvWait true l (sOf G) (rOf G) <|
  onlyIf (3 ≤ tOf G) (fun k => drain P false l G <| drain P true l G k) <|
  onlyIf (G < 11) (fun k => grant P false l <| grant P true l k) <|
  if tOf G < 3 then reduce P g l G k else spread P l G k

/-- The neighbours greet each other. -/
def shake (k : Pg F PUnit) : Pg F PUnit :=
  .op (.semSignal (P.tgt true, .tc) barS (1#32 : BitVec 32).toInt) fun _ =>
  .op (.semSignal (P.tgt false, .tc) barS (1#32 : BitVec 32).toInt) fun _ =>
  .op (.semWait barS (2#32 : BitVec 32).toInt) fun _ => k

/-- One round of both lanes and the beginning of the next. -/
def round (G : ℕ) (k : Pg F PUnit) : Pg F PUnit :=
  complete P g 0 G <| issue P 0 (G + 1) <| complete P g 1 G <| issue P 1 (G + 1) k

/-- `n` rounds from round `G`. -/
def rounds : ℕ → ℕ → Pg F PUnit → Pg F PUnit
  | 0, _, k => k
  | n + 1, G, k => round P g G (rounds n (G + 1) k)

/-- The last waits. -/
def settle : Pg F PUnit :=
  drain P false 0 12 <| drain P false 1 12 <| drain P true 0 12 <| drain P true 1 12 (.ret ⟨⟩)

/-- The ring at a place. -/
def prog : Pg F PUnit :=
  shake P <| issue P 0 0 <| issue P 1 0 <| rounds P g 11 0 <| complete P g 0 11 <| complete P g 1 11 <| settle P

end

/-- A device's place as the kernel computes it. -/
def placeK (c : Dev nD) : Place where
  tgt d := match d with
    | false => ⟨k0_dev2 c, k0_dev2_lt c⟩
    | true => ⟨k0_dev1 c, k0_dev1_lt c⟩
  frm d := match d with
    | false => ⟨k0_dev1 c, k0_dev1_lt c⟩
    | true => ⟨k0_dev2 c, k0_dev2_lt c⟩
  own d j := match d with
    | false => ⟨k0_off1 c (BitVec.ofNat 32 (1024 * (0 : Fin 2).val)) (BitVec.ofNat 32 (256 * j.val)), Gen.k0_off1_inb c 0 j⟩
    | true => ⟨k0_off1 c (BitVec.ofNat 32 (1024 * (1 : Fin 2).val)) (BitVec.ofNat 32 (256 * j.val)), Gen.k0_off1_inb c 1 j⟩
  part d t j := match d with
    | false => ⟨k0_off2 c (BitVec.ofNat 32 t.val) (BitVec.ofNat 32 (256 * j.val)), Gen.k0_off2_inb c t j⟩
    | true => ⟨k0_off3 c (BitVec.ofNat 32 t.val) (BitVec.ofNat 32 (256 * j.val)), Gen.k0_off3_inb c t j⟩
  fin d j := match d with
    | false => ⟨k0_off4 c 1#32 0#32 (BitVec.ofNat 32 (256 * j.val)), by revert c j; decide +kernel⟩
    | true => ⟨k0_off5 c 1#32 1024#32 (BitVec.ofNat 32 (256 * j.val)), by revert c j; decide +kernel⟩
  got d h j := match d with
    | false => ⟨k0_off5 c (BitVec.ofNat 32 h.val) 0#32 (BitVec.ofNat 32 (256 * j.val)), by revert c h j; decide +kernel⟩
    | true => ⟨k0_off4 c (BitVec.ofNat 32 h.val) 1024#32 (BitVec.ofNat 32 (256 * j.val)), by revert c h j; decide +kernel⟩

end Cert.Kernel.Ring

end
-- ==== Proof.K.Same.lean ====
module

public import proofs.«01_k».proof.Proof.K.Prog

@[expose] public section

noncomputable section

namespace Cert.Kernel.Ring

open Idealize.ShloMosaic Idealize.SL.Sem
open Cert.Kernel Cert.Kernel.Gen

variable {F : FTy → Type} [FloatOps F]

set_option maxRecDepth 1000000 in
set_option maxHeartbeats 0 in
/-- The printed body is the ring program at the device's place. -/
theorem body_eq (g : Memref sig .tc .vmem S1x2048 .f32) (hg : g.IsWhole) :
    cc0_body (F := F) (Memref.whole main_v1) (Memref.isWhole_whole _) (Memref.whole main_arg1) (Memref.isWhole_whole _) g hg
      (Memref.whole main_v3) (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 cc0_scratch12 cc0_scratch13 cc0_scratch14 cc0_scratch15
      = Prog.op .deviceId fun c => prog (placeK c) g := rfl

end Cert.Kernel.Ring

end
-- ==== Proof.K.Transport.lean ====
module

public import proofs.«01_k».proof.Proof.K.Same
public import proofs.«01_k».proof.Proof.Gen.KernelIdeal
public import proofs.«01_k».proof.Defs

@[expose] public section

noncomputable section

namespace Cert.Kernel.Ring

open Idealize.ShloMosaic Idealize.SL.Sem

variable {F : FTy → Type} [FloatOps F]
set_option maxRecDepth 100000
set_option maxHeartbeats 0

/-- The idealization prints the kernel's body unchanged, -/
theorem bodyI : Cert.KernelIdeal.cc0_body (F := F) = Cert.Kernel.cc0_body (F := F) := rfl

/-- and its body table, -/
theorem defs₀_eq : Cert.KernelIdeal.defs₀ (F := F) = Cert.Kernel.defs₀ (F := F) := by
  unfold Cert.KernelIdeal.defs₀ Cert.Kernel.defs₀
  refine congrArg (Defs.onTc (nD := Cert.Kernel.nD) (τ := Cert.Kernel.τ) (sig := Cert.Kernel.sig) (Val := Elt F) (Λ := Cert.Kernel.Λ₀)) ?_
  funext l a
  match l, a with
  | ⟨0, _⟩, (t, s) => rfl

/-- and the table with the pipeline's. -/
theorem defs_eq : Cert.KernelIdeal.defs (F := F) = Cert.Kernel.defs (F := F) :=
  congrArg (Pipeline.defs (nD := Cert.Kernel.nD) (τ := Cert.Kernel.τ) (Cert.Kernel.pcfgs (F := F))) defs₀_eq

/-- A run of the kernel is a run of its idealization. -/
theorem tr (m : (ℓ : Loc Cert.Kernel.nD Cert.Kernel.τ Cert.Kernel.sig) → Buf (Elt F) ℓ) (g : Dev Cert.Kernel.nD → PrngReg)
  (Q : PUnit × MemSt Cert.Kernel.nD Cert.Kernel.τ Cert.Kernel.sig (Elt F) → Prop)
  (h : θ_run (Cert.Kernel.defs (F := F)) (onTc (τ := Cert.Kernel.τ) (Cert.Kernel.main (F := F))) ⟨m, fun _ => 0, g⟩ Q) :
  θ_run (Cert.KernelIdeal.defs (F := F)) (onTc (τ := Cert.KernelIdeal.τ) (Cert.KernelIdeal.main (F := F))) ⟨m, fun _ => 0, g⟩ Q := by
  rw [← defs_eq] at h
  exact h
end Cert.Kernel.Ring
-- ==== Proof.K.Base.lean ====
module

public import proofs.«01_k».proof.Proof.K.Prog
public import proofs.«01_k».proof.Proof.Gen.Kernel.Launch
public import Idealize.ShloMosaic.Lib.Pipeline.RegionTalk
public import Idealize.ShloMosaic.Lib.Transfers
public import Idealize.ShloMosaic.Lib.Tactic

@[expose] public section

noncomputable section

namespace Cert.Kernel.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

/-! ## The ring of four devices -/

/-- The device a direction sends to. -/
def tgt : Bool → Dev nD → Dev nD
  | false, c => ⟨(c.val + 1) % 4, Nat.mod_lt _ (by decide)⟩
  | true, c => ⟨(c.val + 3) % 4, Nat.mod_lt _ (by decide)⟩

/-- The device a direction receives from. -/
def frm (d : Bool) (c : Dev nD) : Dev nD := tgt (!d) c

theorem tgt_frm (d : Bool) (c : Dev nD) : tgt d (frm d c) = c := by revert d c; decide
theorem frm_tgt (d : Bool) (c : Dev nD) : frm d (tgt d c) = c := by revert d c; decide
theorem frm4 (d : Bool) (c : Dev nD) : frm d (frm d (frm d (frm d c))) = c := by revert d c; decide

/-- The ring as a permutation. -/
def turn (d : Bool) : Dev nD ≃ Dev nD := ⟨tgt d, frm d, frm_tgt d, tgt_frm d⟩

/-- The device `t` steps back in a direction. -/
def back (d : Bool) : ℕ → Dev nD → Dev nD
  | 0, c => c
  | t + 1, c => back d t (frm d c)

theorem back_succ (d : Bool) (t : ℕ) (c : Dev nD) : back d (t + 1) c = frm d (back d t c) := by
  induction t generalizing c with
  | zero => rfl
  | succ t ih => exact ih (frm d c)

/-- The direction as a number. -/
abbrev dirN (d : Bool) : ℕ := if d then 1 else 0

theorem blk_inb (i : Dev nD) (d : Bool) (j : Fin 4) :
    ∀ a, (![2048 * i.val + 1024 * dirN d + 256 * j.val, 0] : Fin 2 → ℕ) a + S256x2048.size a ≤ S8192x2048.size a := by
  revert i d j; decide +kernel

/-- Row block `j` of a direction's half of chunk `i`. -/
def blk (i : Dev nD) (d : Bool) (j : Fin 4) : Off := ⟨![2048 * i.val + 1024 * dirN d + 256 * j.val, 0], blk_inb i d j⟩

/-- A device's place in closed form. -/
def place (c : Dev nD) : Place where
  tgt d := Cert.Kernel.Ring.tgt d c
  frm d := Cert.Kernel.Ring.frm d c
  own d j := blk c d j
  part d t j := blk (back d (t.val + 1) c) d j
  fin d j := blk (back d 3 c) d j
  got d h j := blk (back d (h.val + 4) c) d j

theorem off4_eq : ∀ (c : Dev nD) (j : Fin 4), k0_off4 c 1#32 0#32 (BitVec.ofNat 32 (256 * j.val)) = (blk (back false 3 c) false j).o := by
  decide +kernel
theorem off5_eq : ∀ (c : Dev nD) (j : Fin 4), k0_off5 c 1#32 1024#32 (BitVec.ofNat 32 (256 * j.val)) = (blk (back true 3 c) true j).o := by
  decide +kernel
theorem off5_got : ∀ (c : Dev nD) (h : Fin 3) (j : Fin 4),
    k0_off5 c (BitVec.ofNat 32 h.val) 0#32 (BitVec.ofNat 32 (256 * j.val)) = (blk (back false (h.val + 4) c) false j).o := by
  decide +kernel
theorem off4_got : ∀ (c : Dev nD) (h : Fin 3) (j : Fin 4),
    k0_off4 c (BitVec.ofNat 32 h.val) 1024#32 (BitVec.ofNat 32 (256 * j.val)) = (blk (back true (h.val + 4) c) true j).o := by
  decide +kernel
theorem off1_own : ∀ (c : Dev nD) (d : Bool) (j : Fin 4),
    k0_off1 c (BitVec.ofNat 32 (1024 * (if d then (1 : Fin 2) else 0).val)) (BitVec.ofNat 32 (256 * j.val)) = (blk c d j).o := by
  decide +kernel
theorem off2_part : ∀ (c : Dev nD) (t : Fin 3) (j : Fin 4),
    k0_off2 c (BitVec.ofNat 32 t.val) (BitVec.ofNat 32 (256 * j.val)) = (blk (back false (t.val + 1) c) false j).o := by
  decide +kernel
theorem off3_part : ∀ (c : Dev nD) (t : Fin 3) (j : Fin 4),
    k0_off3 c (BitVec.ofNat 32 t.val) (BitVec.ofNat 32 (256 * j.val)) = (blk (back true (t.val + 1) c) true j).o := by
  decide +kernel

/-- The kernel's chains compute that place. -/
theorem placeK_eq (c : Dev nD) : placeK c = place c := by
  have ht : (placeK c).tgt = (place c).tgt := funext fun d => by
    cases d
    · exact Fin.ext (k0_dev2_eq c)
    · exact Fin.ext (k0_dev1_eq c)
  have hf : (placeK c).frm = (place c).frm := funext fun d => by
    cases d
    · exact Fin.ext (k0_dev1_eq c)
    · exact Fin.ext (k0_dev2_eq c)
  have ho : (placeK c).own = (place c).own := funext fun d => funext fun j => by
    cases d
    · exact Off.ext (off1_own c false j)
    · exact Off.ext (off1_own c true j)
  have hp : (placeK c).part = (place c).part := funext fun d => funext fun t => funext fun j => by
    cases d
    · exact Off.ext (off2_part c t j)
    · exact Off.ext (off3_part c t j)
  have hn : (placeK c).fin = (place c).fin := funext fun d => funext fun j => by
    cases d
    · exact Off.ext (off4_eq c j)
    · exact Off.ext (off5_eq c j)
  have hg : (placeK c).got = (place c).got := funext fun d => funext fun h => funext fun j => by
    cases d
    · exact Off.ext (off5_got c h j)
    · exact Off.ext (off4_got c h j)
  show (⟨(placeK c).tgt, (placeK c).frm, (placeK c).own, (placeK c).part, (placeK c).fin, (placeK c).got⟩ : Place) = _
  rw [ht, hf, ho, hp, hn, hg]

/-! ## The algebra -/

/-- The rounds library's algebra at two duties a round. -/
abbrev RR : Type := URounds (GSem nD τ sig) Bool

/-- The pipeline library's, the ring's, and the counters of transfers in flight. -/
abbrev UU : Type := UR sig nD τ × (RR × Counters)

/-- The model's algebra. -/
abbrev MM (F : FTy → Type) [FloatOps F] : Type := MT nD τ sig ℕ (Elt F) ℕ UU ℕ

/-- Propositions over the model's resources. -/
abbrev PR (F : FTy → Type) [FloatOps F] : Type := sProp (MM F)

abbrev EP : Emb (UR sig nD τ) (MM F) := embL

def ER : Emb RR (MM F) := (Emb.inl : Emb RR (RR × Counters)).trans embR

instance ER_landsIn : (ER : Emb RR (MM F)).LandsIn (upEmb : UEmb _ (MM F)) := by unfold ER; infer_instance

abbrev EC : UEmb Counters (MM F) := countersEmb

/-- No invariant measures. -/
abbrev 𝒱₀ : Variants := Variants.none

/-- The weakest precondition of a device's program. -/
abbrev WP (c : Dev nD) (p : Pg F PUnit) (Q : PUnit → PR F) : PR F :=
  wp frame (wpE (defs₀ (F := F)) 𝒱₀ (c : Thread nD τ) none) Set.univ p Q

/-! ## The cells -/

/-- A device's cells that others pay or that a sending raises: departures, arrivals, grants and the barrier. -/
abbrev Cell : Type := (Bool × Fin 2 × Fin 2) ⊕ (Bool × Fin 2 × Fin 2) ⊕ (Bool × Fin 2) ⊕ Unit

abbrev kSend (d : Bool) (l s : Fin 2) : Cell := .inl (d, l, s)
abbrev kRecv (d : Bool) (l s : Fin 2) : Cell := .inr (.inl (d, l, s))
abbrev kCrd (d : Bool) (l : Fin 2) : Cell := .inr (.inr (.inl (d, l)))
abbrev kBar : Cell := .inr (.inr (.inr ()))

/-- A cell's semaphore. -/
@[reducible] def sem : Cell → SemLoc sig
  | .inl (d, l, s) => .dma (sendS d l s)
  | .inr (.inl (d, l, s)) => .dma (recvS d l s)
  | .inr (.inr (.inl (d, l))) => .reg (crdS d l)
  | .inr (.inr (.inr ())) => .reg barS

theorem sem_inj : Function.Injective sem := by decide +kernel

/-- The cell of a semaphore. -/
def cls (sm : SemLoc sig) : Option Cell := if h : ∃ k, sem k = sm then some h.choose else none

theorem cls_sem (k : Cell) : cls (sem k) = some k := by
  have h : ∃ k', sem k' = sem k := ⟨k, rfl⟩
  unfold cls
  rw [dif_pos h]
  exact congrArg some (sem_inj h.choose_spec)

/-- A device's cell. -/
abbrev cell (c : Dev nD) (k : Cell) : GSem nD τ sig := ((c : Thread nD τ), sem k)

theorem cell_inj {c c' : Dev nD} {k k' : Cell} (h : cell c k = cell c' k') : c = c' ∧ k = k' :=
  ⟨congrArg (fun g : GSem nD τ sig => g.1.1) h, sem_inj (congrArg Prod.snd h)⟩

/-- The units of one transfer of 256 rows. -/
@[irreducible] def N : ℕ := (slot false 0 0).view.dmaCredit

theorem N_pos : 0 < N := by unfold N; exact View.dmaCredit_pos _ (by decide)

theorem slot_credit (d : Bool) (l s : Fin 2) : (slot d l s).view.dmaCredit = N := by unfold N; cases d <;> rfl
theorem stg_credit (d : Bool) (l : Fin 2) : (stg d l).view.dmaCredit = N := by unfold N; cases d <;> rfl
theorem rows1_credit (o : Off) : (rows (Memref.whole main_v1) o).view.dmaCredit = N := by unfold N; rfl
theorem rows3_credit (o : Off) : (rows (Memref.whole main_v3) o).view.dmaCredit = N := by unfold N; rfl

end Cert.Kernel.Ring

end
-- ==== Proof.K.Sched.lean ====
module

public import proofs.«01_k».proof.Proof.K.Base

@[expose] public section

noncomputable section

namespace Cert.Kernel.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

/-! ## What the slots hold -/

/-- What the devices' arrays hold: the summand, the residual and the scale. -/
structure Data (F : FTy → Type) [FloatOps F] where
  x : Dev nD → FVec F S8192x2048 .f32
  r : Dev nD → FVec F S8192x2048 .f32
  w : Dev nD → Vec F S1x2048 .f32

/-- 256 rows of an array. -/
def rowsOf (x : FVec F S8192x2048 .f32) (o : Off) : FVec F S256x2048 .f32 :=
  (rows (Memref.whole main_v1) o).view.read (Elt F) x

variable (X : Data F)

/-- The rows a device of the ring holds for block `j` of direction `d` after `t` steps. -/
def val (d : Bool) (j : Fin 4) : ℕ → Dev nD → FVec F S256x2048 .f32
  | 0, c => rowsOf (X.x c) (blk c d j)
  | t + 1, c =>
    if t < 2 then addf (val d j t (frm d c)) (rowsOf (X.x c) (blk (back d (t + 1) c) d j))
    else if t = 2 then nrmP (addf (addf (val d j t (frm d c)) (rowsOf (X.x c) (blk (back d (t + 1) c) d j))) (rowsOf (X.r c) (blk (back d (t + 1) c) d j))) (X.w c)
    else val d j t (frm d c)

/-- What a chain sends in a round. -/
def cnt (c : Dev nD) (d : Bool) (l : Fin 2) (G : ℕ) : FVec F S256x2048 .f32 := val X d (sub l (vOf G)) (tOf G) c

/-- What a chain's receiving slot holds at the end of a round. -/
def aft (c : Dev nD) (d : Bool) (l : Fin 2) (G : ℕ) : FVec F S256x2048 .f32 := val X d (sub l (vOf G)) (tOf G + 1) c

theorem aft_eq (c : Dev nD) (d : Bool) (l : Fin 2) (G : ℕ) (h : tOf G ≠ 5) : aft X c d l G = cnt X c d l (G + 1) := by
  have h1 : tOf (G + 1) = tOf G + 1 := by unfold tOf at *; omega
  have h2 : vOf (G + 1) = vOf G := Fin.ext (by show (G + 1) / 6 % 2 = G / 6 % 2; unfold tOf at *; omega)
  unfold aft cnt
  rw [← h1, h2]

/-- The rows of the result a chain writes in a round. -/
def outB (c : Dev nD) (d : Bool) (l : Fin 2) (G : ℕ) : Off := blk (back d (tOf G + 1) c) d (sub l (vOf G))

/-! ## Ownership -/

/-- A memory reference's elements at values `V`. -/
abbrev held {cs : Space} {s : Shape} {e : EltTy} (c : Dev nD) (M : Memref sig .tc cs s e) (q : PosShare TreeShare) (V : s.Idx → Elt F e) : PR F :=
  M.view.loc (c : Thread nD τ) ↦[M.view.set]{q} M.view.rep V

/-- A memory reference's elements, whole, whatever they are. -/
abbrev some' {cs : Space} {s : Shape} {e : EltTy} (c : Dev nD) (M : Memref sig .tc cs s e) : PR F :=
  iprop(∃ V : s.Idx → Elt F e, held c M fullShare V)

/-- The share that a slot's departure takes, and the share that stays. -/
abbrev qR : PosShare TreeShare := fullShare.right
abbrev qL : PosShare TreeShare := fullShare.left

/-- Leave to send in round `G`: the receiver's slot and that its cell has come to that round. -/
def perm (c : Dev nD) (d : Bool) (l : Fin 2) (G : ℕ) : PR F :=
  iprop(some' (tgt d c) (slot d l (rOf G)) ∗ reached ER (cell (tgt d c) (kRecv d l (rOf G))) (G / 2))

instance held_storable {cs : Space} {s : Shape} {e : EltTy} (c : Dev nD) (M : Memref sig .tc cs s e) (q : PosShare TreeShare) (V : s.Idx → Elt F e) :
    BI.Storable (upEmb : UEmb _ (MM F)) (held c M q V) := inferInstance

instance some'_storable {cs : Space} {s : Shape} {e : EltTy} (c : Dev nD) (M : Memref sig .tc cs s e) :
    BI.Storable (upEmb : UEmb _ (MM F)) (some' (F := F) c M) := inferInstance

instance perm_storable (c : Dev nD) (d : Bool) (l : Fin 2) (G : ℕ) : BI.Storable (upEmb : UEmb _ (MM F)) (perm (F := F) c d l G) := by
  unfold perm; infer_instance

/-! ## The schedule -/

/-- The duties of a cell's round. -/
def dutiesOf : Cell → ℕ → Finset Bool
  | .inl _, r => if r < 6 then {false} else ∅
  | .inr (.inl _), r => if r < 6 then {false} else ∅
  | .inr (.inr (.inl _)), r => if r < 11 then {false} else ∅
  | .inr (.inr (.inr _)), r => if r = 0 then Finset.univ else ∅

/-- The units of a cell's duty. -/
def amountAt : Cell → ℕ
  | .inl _ => N
  | .inr (.inl _) => N
  | .inr (.inr (.inl _)) => 1
  | .inr (.inr (.inr _)) => 1

theorem amountAt_pos (k : Cell) : 0 < amountAt k := by
  rcases k with k | k | k | k
  · exact N_pos
  · exact N_pos
  · exact Nat.one_pos
  · exact Nat.one_pos

/-- What a duty's payer hands to the cell's owner. -/
def pay (c : Dev nD) : Cell → ℕ → Bool → PR F
  | .inl (d, l, s), r, _ => held c (slot d l s) qR (cnt X c d l (2 * r + s.val))
  | .inr (.inl (d, l, s)), r, _ => iprop(held c (slot d l s) fullShare (cnt X (frm d c) d l (2 * r + (1 - s.val))) ∗ reached ER (cell (frm d c) (kCrd d l)) (2 * r + (1 - s.val)))
  | .inr (.inr (.inl (d, l))), r, _ => perm c d l (r + 1)
  | .inr (.inr (.inr _)), _, d => iprop(perm c d 0 0 ∗ perm c d 1 0)

def sched : Rounds.Schedule (GSem nD τ sig) Bool (MM F) where
  duties g r := match cls g.2 with
    | some k => if g.1.2 = .tc then dutiesOf k r else ∅
    | none => ∅
  unitless _ := False
  amount g _ _ := match cls g.2 with
    | some k => amountAt k
    | none => 1
  payload g r d := match cls g.2 with
    | some k => pay X g.1.1 k r d
    | none => iprop(emp)
  amount_pos g _ _ _ := by
    rcases cls g.2 with _ | k
    · exact Nat.one_pos
    · exact amountAt_pos k

instance pay_storable (c : Dev nD) (k : Cell) (r : ℕ) (d : Bool) : BI.Storable (upEmb : UEmb _ (MM F)) (pay X c k r d) := by
  rcases k with ⟨d', l, s⟩ | ⟨d', l, s⟩ | ⟨d', l⟩ | u
  · exact held_storable c (slot d' l s) qR _
  · unfold pay; infer_instance
  · exact perm_storable c d' l (r + 1)
  · unfold pay; infer_instance

instance sched_storable (g : GSem nD τ sig) (r : ℕ) (d : Bool) : BI.Storable (upEmb : UEmb _ (MM F)) ((sched X).payload g r d) := by
  show BI.Storable upEmb (match cls g.2 with
    | some k => pay X g.1.1 k r d
    | none => iprop(emp))
  rcases cls g.2 with _ | k
  · infer_instance
  · exact pay_storable X g.1.1 k r d

theorem duties_cell (c : Dev nD) (k : Cell) (r : ℕ) : (sched X).duties (cell c k) r = dutiesOf k r := by
  show (match cls (sem k) with
    | some k => if (c : Thread nD τ).2 = Proc.tc then dutiesOf k r else ∅
    | none => ∅) = _
  rw [cls_sem]; exact if_pos rfl

theorem amount_cell (c : Dev nD) (k : Cell) (r : ℕ) (d : Bool) : (sched X).amount (cell c k) r d = amountAt k := by
  show (match cls (sem k) with
    | some k => amountAt k
    | none => 1) = _
  rw [cls_sem]

theorem payload_cell (c : Dev nD) (k : Cell) (r : ℕ) (d : Bool) : (sched X).payload (cell c k) r d = pay X c k r d := by
  show (match cls (sem k) with
    | some k => pay X c k r d
    | none => iprop(emp)) = _
  rw [cls_sem]

theorem expect_one (c : Dev nD) (k : Cell) (r : ℕ) (h : dutiesOf k r = {false}) : (sched X).expect (cell c k) r = amountAt k := by
  unfold Schedule.expect Schedule.amountOf
  rw [duties_cell, h, Finset.sum_singleton, amount_cell]

theorem rest_one (c : Dev nD) (k : Cell) (r : ℕ) (h : dutiesOf k r = {false}) :
    bigSep ((sched X).duties (cell c k) r \ ∅) (fun d => (sched X).payload (cell c k) r d) = pay X c k r false := by
  rw [Finset.sdiff_empty, duties_cell, h, bigSep_singleton, payload_cell]

theorem expect_bar (c : Dev nD) : (sched X).expect (cell c kBar) 0 = 2 := by
  unfold Schedule.expect Schedule.amountOf
  rw [duties_cell]
  show ∑ d : Bool, (sched X).amount (cell c kBar) 0 d = 2
  rw [Fintype.sum_bool, amount_cell, amount_cell]; rfl

theorem rest_bar (c : Dev nD) :
    bigSep ((sched X).duties (cell c kBar) 0 \ ∅) (fun d => (sched X).payload (cell c kBar) 0 d)
      = iprop((perm c true 0 0 ∗ perm c true 1 0) ∗ perm c false 0 0 ∗ perm c false 1 0) := by
  rw [Finset.sdiff_empty, duties_cell]
  show bigSep (Finset.univ : Finset Bool) _ = _
  have : (Finset.univ : Finset Bool) = insert true {false} := by decide
  rw [this, bigSep_insert (by decide), bigSep_singleton, payload_cell, payload_cell]
  rfl

/-- No duty after a cell's last round. -/
def lastOf : Cell → ℕ
  | .inl _ => 6
  | .inr (.inl _) => 6
  | .inr (.inr (.inl _)) => 11
  | .inr (.inr (.inr _)) => 1

theorem duties_later (c : Dev nD) (k : Cell) : ∀ r, lastOf k ≤ r → (sched X).duties (cell c k) r = ∅ := fun r hr => by
  rw [duties_cell]
  rcases k with k | k | k | k
  · exact if_neg (Nat.not_lt.mpr hr)
  · exact if_neg (Nat.not_lt.mpr hr)
  · exact if_neg (Nat.not_lt.mpr hr)
  · exact if_neg (fun h => by rw [h] at hr; exact absurd hr (Nat.not_succ_le_zero 0))

/-! ## Levels -/

/-- The indices of a cell's messages. -/
def L (g : GSem nD τ sig) : Finset ℕ := if g.1.2 = .tc then Finset.range 12 else ∅

def lvOf : Cell → ℕ → ℕ
  | .inl _, _ => 0
  | .inr (.inl (_, l, _)), i => 4 * i + 2 + 2 * l.val
  | .inr (.inr (.inl (_, l))), i => 4 * i + 3 + 2 * l.val
  | .inr (.inr (.inr _)), _ => 1

def lv (g : GSem nD τ sig) (i : ℕ) : ℕ := match cls g.2 with
  | some k => lvOf k i
  | none => 0

theorem lv_cell (c : Dev nD) (k : Cell) (i : ℕ) : lv (cell c k) i = lvOf k i := by
  show (match cls (sem k) with
    | some k => lvOf k i
    | none => 0) = _
  rw [cls_sem]

theorem L_of_ne (g : GSem nD τ sig) (h : g.1.2 ≠ .tc) : L g = ∅ := if_neg h
theorem L_tc (c : Dev nD) (sm : SemLoc sig) : L ((c : Thread nD τ), sm) = Finset.range 12 := if_pos rfl

/-- All that is owed is at cells above level `n`. -/
def Above (n : ℕ) (O : CellTallies nD τ sig ℕ) : Prop := ∀ g i, 0 < O g i → i ∈ L g ∧ n < lv g i

theorem Above.zero (n : ℕ) : Above n 0 := fun g i h => absurd h (Nat.lt_irrefl 0)

theorem Above.add {n : ℕ} {O O' : CellTallies nD τ sig ℕ} (h : Above n O) (h' : Above n O') : Above n (O + O') := fun g i hp => by
  have hp' : 0 < O g i + O' g i := hp
  by_cases h0 : 0 < O g i
  · exact h g i h0
  · exact h' g i (by omega)

theorem Above.tally {n : ℕ} {c : Dev nD} {k : Cell} {i a : ℕ} (hi : i < 12) (hn : n < lvOf k i) : Above n (tallyAt (cell c k) i a) := fun g j hp => by
  rw [tallyAt_apply] at hp
  by_cases h : g = cell c k ∧ j = i
  · rw [h.1, h.2, L_tc, lv_cell]; exact ⟨Finset.mem_range.mpr hi, hn⟩
  · rw [if_neg h] at hp; exact absurd hp (Nat.lt_irrefl 0)

theorem Above.sum {n : ℕ} {T : Type} (s : Finset T) (O : T → CellTallies nD τ sig ℕ) (h : ∀ t ∈ s, Above n (O t)) : Above n (∑ t ∈ s, O t) := by
  classical
  induction s using Finset.induction_on with
  | empty => rw [Finset.sum_empty]; exact Above.zero n
  | insert a s ha ih =>
    rw [Finset.sum_insert ha]
    exact (h a (Finset.mem_insert_self _ _)).add (ih fun t ht => h t (Finset.mem_insert_of_mem ht))

theorem Above.mono {n n' : ℕ} {O : CellTallies nD τ sig ℕ} (h : Above n' O) (hn : n ≤ n') : Above n O := fun g i hp =>
  ⟨(h g i hp).1, lt_of_le_of_lt hn (h g i hp).2⟩

theorem mayWait {c : Dev nD} {sm : SemLoc sig} {ι n : ℕ} {O : CellTallies nD τ sig ℕ} (hι : ι < 12) (hl : lv ((c : Thread nD τ), sm) ι ≤ n) (hO : Above n O) :
    (levAts L lv : PR F) ⊢ MayWait (c : Thread nD τ) sm ι O :=
  MayOwe.of_cut (L := L) (lev := lv) n
    (fun p hp => by rw [Finset.mem_singleton.mp hp, L_tc]; exact Finset.mem_range.mpr hι)
    (fun g u hg => (hO g u hg).1)
    (fun p hp => by rw [Finset.mem_singleton.mp hp]; exact hl)
    (fun g u hg => (hO g u hg).2)

theorem lv_loc (c : Dev nD) (d : Bool) (l : Fin 2) (i : ℕ) : lv ((c : Thread nD τ), .dma (locS d l)) i = 0 := by
  have h : cls (.dma (locS d l) : SemLoc sig) = none := dif_neg (by revert d l; decide +kernel)
  unfold lv; rw [h]

theorem lv_out (c : Dev nD) (d : Bool) (l : Fin 2) (i : ℕ) : lv ((c : Thread nD τ), .dma (outS d l)) i = 0 := by
  have h : cls (.dma (outS d l) : SemLoc sig) = none := dif_neg (by revert d l; decide +kernel)
  unfold lv; rw [h]

/-! ## What a chain still owes -/

theorem ico_step {a n : ℕ} (h : a < n) : Finset.Ico a n = insert a (Finset.Ico (a + 1) n) := by
  ext i; rw [Finset.mem_insert, Finset.mem_Ico, Finset.mem_Ico]; omega

theorem ico_not (a n : ℕ) : a ∉ Finset.Ico (a + 1) n := fun h => by rw [Finset.mem_Ico] at h; omega

/-- The arrivals a chain has yet to make at its receiver, from round `a` on. -/
def owR (c : Dev nD) (d : Bool) (l : Fin 2) (a : ℕ) : CellTallies nD τ sig ℕ :=
  ∑ G ∈ Finset.Ico a 12, tallyAt (cell (tgt d c) (kRecv d l (rOf G))) G N

/-- The grants a chain has yet to make to its sender, from round `b` on. -/
def owC (c : Dev nD) (d : Bool) (l : Fin 2) (b : ℕ) : CellTallies nD τ sig ℕ :=
  ∑ G ∈ Finset.Ico b 11, tallyAt (cell (frm d c) (kCrd d l)) G 1

theorem owR_step (c : Dev nD) (d : Bool) (l : Fin 2) {a : ℕ} (h : a < 12) :
    owR c d l a = tallyAt (cell (tgt d c) (kRecv d l (rOf a))) a N + owR c d l (a + 1) := by
  unfold owR; rw [ico_step h, Finset.sum_insert (ico_not a 12)]

theorem owC_step (c : Dev nD) (d : Bool) (l : Fin 2) {b : ℕ} (h : b < 11) :
    owC c d l b = tallyAt (cell (frm d c) (kCrd d l)) b 1 + owC c d l (b + 1) := by
  unfold owC; rw [ico_step h, Finset.sum_insert (ico_not b 11)]

theorem owR_end (c : Dev nD) (d : Bool) (l : Fin 2) {a : ℕ} (h : 12 ≤ a) : owR c d l a = 0 := by unfold owR; rw [Finset.Ico_eq_empty_of_le h, Finset.sum_empty]
theorem owC_end (c : Dev nD) (d : Bool) (l : Fin 2) {b : ℕ} (h : 11 ≤ b) : owC c d l b = 0 := by unfold owC; rw [Finset.Ico_eq_empty_of_le h, Finset.sum_empty]

theorem above_owR (c : Dev nD) (d : Bool) (l : Fin 2) {a n : ℕ} (h : n < 4 * a + 2 + 2 * l.val) : Above n (owR c d l a) :=
  Above.sum _ _ fun G hG => by
    rw [Finset.mem_Ico] at hG
    exact Above.tally hG.2 (by show n < 4 * G + 2 + 2 * l.val; omega)

theorem above_owC (c : Dev nD) (d : Bool) (l : Fin 2) {b n : ℕ} (h : n < 4 * b + 3 + 2 * l.val) : Above n (owC c d l b) :=
  Above.sum _ _ fun G hG => by
    rw [Finset.mem_Ico] at hG
    exact Above.tally (by omega) (by show n < 4 * G + 3 + 2 * l.val; omega)

end Cert.Kernel.Ring

end
-- ==== Proof.K.Ops.lean ====
module

public import proofs.«01_k».proof.Proof.K.Sched
public import Idealize.ShloMosaic.Lib.Pipeline.Value

@[expose] public section

noncomputable section

namespace Cert.Kernel.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

/-! ## Ownership, restated -/

section Own
variable {cs : Space} {s : Shape} {e : EltTy} (c : Dev nD) (M : Memref sig .tc cs s e)

theorem held_share (V : s.Idx → Elt F e) : (held c M fullShare V : PR F) ⊣⊢ iprop(held c M qL V ∗ held c M qR V) :=
  pointsTo_share (PosShare.mem_left_op_right fullShare)

theorem held_of (q : PosShare TreeShare) (f : Buf (Elt F) (M.view.loc (c : Thread nD τ))) :
    (M.view.loc (c : Thread nD τ) ↦[M.view.set]{q} f : PR F) = held c M q (M.view.read (Elt F) f) :=
  pointsTo_rep (c : Thread nD τ) M f q

theorem held_write (q : PosShare TreeShare) (f : Buf (Elt F) (M.view.loc (c : Thread nD τ))) (V : s.Idx → Elt F e) :
    (M.view.loc (c : Thread nD τ) ↦[M.view.set]{q} M.view.write (Elt F) f V Finset.univ : PR F) = held c M q V :=
  (held_of c M q _).trans (congrArg (held c M q) (View.read_write_univ f V))

theorem read_rep' (V : s.Idx → Elt F e) : M.view.read (Elt F) (M.view.rep V) = V := View.read_rep M.view V

end Own

/-- What a core owes, whatever it has waited for. -/
abbrev Ow (c : Dev nD) (O : CellTallies nD τ sig ℕ) : PR F := iprop(∃ W, owes (c : Thread nD τ) O W)

/-! ## Copies within a device -/

section Local
variable (c : Dev nD) (Q : PUnit → PR F) (d : Bool) (l s : Fin 2) (o : Off) (k : Pg F PUnit)

theorem wp_storeOut (V : FVec F S256x2048 .f32) :
    iprop(held c (slot d l s) qL V ∗ some' c (rows (Memref.whole main_v3) o) ∗ semVal ((c : Thread nD τ), .dma (outS d l)) 0)
      ⊢ iprop((Transfers.Flight EC (c : Thread nD τ) (.dma (outS d l)) 0 N
            iprop(held c (rows (Memref.whole main_v3) o) fullShare V ∗ held c (slot d l s) qL V) -∗ WP c k Q)
          -∗ WP c (storeOut d l s o k) Q) := by
  iintro ⟨Hs, ⟨%f, Hd⟩, Hv⟩ Hk
  unfold storeOut
  iapply (Transfers.wp_dmaLocal EC 𝒱₀ (c : Thread nD τ) none (Q := Q) (q := qL) (src := slot d l s) (dst := rows (Memref.whole main_v3) o) (sm := .dma (outS d l))
    (fs := (slot d l s).view.rep V) (fd := (rows (Memref.whole main_v3) o).view.rep f) 0 N (rows3_credit o) N_pos (Finset.Subset.refl _)) $$ [Hs Hd Hv]
  · isplitl [Hs]; · iexact Hs
    isplitl [Hd]; · iexact Hd
    iexact Hv
  iintro Hf
  iapply Hk
  iapply (Transfers.Flight_mono EC (c : Thread nD τ) (D' := iprop(held c (rows (Memref.whole main_v3) o) fullShare V ∗ held c (slot d l s) qL V))
    (sep_mono_left (Entails.of_eq ((held_write c (rows (Memref.whole main_v3) o) fullShare _ _).trans
      (congrArg (held c (rows (Memref.whole main_v3) o) fullShare) (read_rep' (slot d l s) V)))))) $$ Hf

theorem wp_loadSlot (q : PosShare TreeShare) (V : FVec F S256x2048 .f32) :
    iprop(held c (rows (Memref.whole main_v1) o) q V ∗ some' c (slot d l s) ∗ semVal ((c : Thread nD τ), .dma (locS d l)) 0)
      ⊢ iprop((Transfers.Flight EC (c : Thread nD τ) (.dma (locS d l)) 0 N
            iprop(held c (slot d l s) fullShare V ∗ held c (rows (Memref.whole main_v1) o) q V) -∗ WP c k Q)
          -∗ WP c (loadSlot d l s o k) Q) := by
  iintro ⟨Hs, ⟨%f, Hd⟩, Hv⟩ Hk
  unfold loadSlot
  iapply (Transfers.wp_dmaLocal EC 𝒱₀ (c : Thread nD τ) none (Q := Q) (q := q) (src := rows (Memref.whole main_v1) o) (dst := slot d l s) (sm := .dma (locS d l))
    (fs := (rows (Memref.whole main_v1) o).view.rep V) (fd := (slot d l s).view.rep f) 0 N (slot_credit d l s) N_pos (Finset.Subset.refl _)) $$ [Hs Hd Hv]
  · isplitl [Hs]; · iexact Hs
    isplitl [Hd]; · iexact Hd
    iexact Hv
  iintro Hf
  iapply Hk
  iapply (Transfers.Flight_mono EC (c : Thread nD τ) (D' := iprop(held c (slot d l s) fullShare V ∗ held c (rows (Memref.whole main_v1) o) q V))
    (sep_mono_left (Entails.of_eq ((held_write c (slot d l s) fullShare _ _).trans
      (congrArg (held c (slot d l s) fullShare) (read_rep' (rows (Memref.whole main_v1) o) V)))))) $$ Hf

theorem wp_loadStg (M : Memref sig .tc .hbm S8192x2048 .f32) (q : PosShare TreeShare) (V : FVec F S256x2048 .f32) :
    iprop(held c (rows M o) q V ∗ some' c (stg d l) ∗ semVal ((c : Thread nD τ), .dma (locS d l)) 0)
      ⊢ iprop((Transfers.Flight EC (c : Thread nD τ) (.dma (locS d l)) 0 N
            iprop(held c (stg d l) fullShare V ∗ held c (rows M o) q V) -∗ WP c k Q)
          -∗ WP c (loadStg M d l o k) Q) := by
  iintro ⟨Hs, ⟨%f, Hd⟩, Hv⟩ Hk
  unfold loadStg
  iapply (Transfers.wp_dmaLocal EC 𝒱₀ (c : Thread nD τ) none (Q := Q) (q := q) (src := rows M o) (dst := stg d l) (sm := .dma (locS d l))
    (fs := (rows M o).view.rep V) (fd := (stg d l).view.rep f) 0 N (stg_credit d l) N_pos (Finset.Subset.refl _)) $$ [Hs Hd Hv]
  · isplitl [Hs]; · iexact Hs
    isplitl [Hd]; · iexact Hd
    iexact Hv
  iintro Hf
  iapply Hk
  iapply (Transfers.Flight_mono EC (c : Thread nD τ) (D' := iprop(held c (stg d l) fullShare V ∗ held c (rows M o) q V))
    (sep_mono_left (Entails.of_eq ((held_write c (stg d l) fullShare _ _).trans
      (congrArg (held c (stg d l) fullShare) (read_rep' (rows M o) V)))))) $$ Hf

theorem wp_storeWait {O : CellTallies nD τ sig ℕ} (hO : Above 0 O) (D : PR F) :
    iprop(levAts L lv ∗ Transfers.Flight EC (c : Thread nD τ) (.dma (outS d l)) 0 N D ∗ Ow c O)
      ⊢ iprop((iprop(D ∗ semVal ((c : Thread nD τ), .dma (outS d l)) 0 ∗ Ow c O) -∗ WP c k Q) -∗ WP c (storeWait d l s o k) Q) := by
  iintro ⟨#Hl, Hf, ⟨%W, HO⟩⟩ Hk
  unfold storeWait
  iapply (Transfers.wp_waitLocalO EC 𝒱₀ (c : Thread nD τ) none (Q := Q) (dstw := rows (Memref.whole main_v3) o) (srcw := slot d l s) 0 (rows3_credit o) (D := D) (O := O) (W := W)) $$ [Hf HO]
  · isplitl [Hf]; · iexact Hf
    isplitl [HO]; · iexact HO
    iapply (mayWait (c := c) (sm := .dma (outS d l)) (ι := 0) (by decide) (Nat.le_of_eq (lv_out c d l 0)) hO); iexact Hl
  iintro ⟨HD, Hv, HO⟩
  iapply Hk
  isplitl [HD]; · iexact HD
  isplitl [Hv]; · iexact Hv
  iexists _; iexact HO

theorem wp_loadSlotWait {O : CellTallies nD τ sig ℕ} (hO : Above 0 O) (D : PR F) :
    iprop(levAts L lv ∗ Transfers.Flight EC (c : Thread nD τ) (.dma (locS d l)) 0 N D ∗ Ow c O)
      ⊢ iprop((iprop(D ∗ semVal ((c : Thread nD τ), .dma (locS d l)) 0 ∗ Ow c O) -∗ WP c k Q) -∗ WP c (loadSlotWait d l s o k) Q) := by
  iintro ⟨#Hl, Hf, ⟨%W, HO⟩⟩ Hk
  unfold loadSlotWait
  iapply (Transfers.wp_waitLocalO EC 𝒱₀ (c : Thread nD τ) none (Q := Q) (srcw := rows (Memref.whole main_v1) o) (dstw := slot d l s) 0 (slot_credit d l s) (D := D) (O := O) (W := W)) $$ [Hf HO]
  · isplitl [Hf]; · iexact Hf
    isplitl [HO]; · iexact HO
    iapply (mayWait (c := c) (sm := .dma (locS d l)) (ι := 0) (by decide) (Nat.le_of_eq (lv_loc c d l 0)) hO); iexact Hl
  iintro ⟨HD, Hv, HO⟩
  iapply Hk
  isplitl [HD]; · iexact HD
  isplitl [Hv]; · iexact Hv
  iexists _; iexact HO

theorem wp_loadStgWait (M : Memref sig .tc .hbm S8192x2048 .f32) {O : CellTallies nD τ sig ℕ} (hO : Above 0 O) (D : PR F) :
    iprop(levAts L lv ∗ Transfers.Flight EC (c : Thread nD τ) (.dma (locS d l)) 0 N D ∗ Ow c O)
      ⊢ iprop((iprop(D ∗ semVal ((c : Thread nD τ), .dma (locS d l)) 0 ∗ Ow c O) -∗ WP c k Q) -∗ WP c (loadStgWait M d l o k) Q) := by
  iintro ⟨#Hl, Hf, ⟨%W, HO⟩⟩ Hk
  unfold loadStgWait
  iapply (Transfers.wp_waitLocalO EC 𝒱₀ (c : Thread nD τ) none (Q := Q) (srcw := rows M o) (dstw := stg d l) 0 (stg_credit d l) (D := D) (O := O) (W := W)) $$ [Hf HO]
  · isplitl [Hf]; · iexact Hf
    isplitl [HO]; · iexact HO
    iapply (mayWait (c := c) (sm := .dma (locS d l)) (ι := 0) (by decide) (Nat.le_of_eq (lv_loc c d l 0)) hO); iexact Hl
  iintro ⟨HD, Hv, HO⟩
  iapply Hk
  isplitl [HD]; · iexact HD
  isplitl [Hv]; · iexact Hv
  iexists _; iexact HO

end Local

/-! ## Reading and writing the slots -/

section Mem
variable (c : Dev nD) (Q : PUnit → PR F) (d : Bool) (l s : Fin 2)

theorem slot_set : (slot d l s).view.set = ((comm d).access (slotR l s)).set :=
  View.set_reshape _ _

theorem stg_set : (stg d l).view.set = ((stage d).access (stgR l)).set :=
  View.set_reshape _ _

theorem wp_ldSlot (q : PosShare TreeShare) (V : FVec F S256x2048 .f32) (k : Vec F S1x1x256x2048 .f32 → Pg F PUnit) :
    held c (slot d l s) q V
      ⊢ iprop((∀ a : Vec F S1x1x256x2048 .f32, ⌜shapeCast S256x2048 a shapeCasts_S1x1x256x2048_S256x2048 = V⌝ -∗ held c (slot d l s) q V -∗ WP c (k a) Q)
          -∗ WP c (ldSlot d l s k) Q) := by
  iintro Hs Hk
  unfold ldSlot
  iapply (wp_load_rect 𝒱₀ (c : Thread nD τ) none Set.univ (Q := Q) (m := comm d) (r := slotR l s) (S := (slot d l s).view.set) (q := q) (f := (slot d l s).view.rep V)
    (Finset.Subset.antisymm_iff.mp (slot_set d l s)).2) $$ [Hs]
  · iexact Hs
  iintro Hs
  iapply Hk $$ [] [Hs]
  · ipureintro
    exact read_rep' (slot d l s) V
  · iexact Hs

theorem wp_ldStg (q : PosShare TreeShare) (V : FVec F S256x2048 .f32) (k : Vec F S1x256x2048 .f32 → Pg F PUnit) :
    held c (stg d l) q V
      ⊢ iprop((∀ a : Vec F S1x256x2048 .f32, ⌜shapeCast S256x2048 a shapeCasts_S1x256x2048_S256x2048 = V⌝ -∗ held c (stg d l) q V -∗ WP c (k a) Q)
          -∗ WP c (ldStg d l k) Q) := by
  iintro Hs Hk
  unfold ldStg
  iapply (wp_load_rect 𝒱₀ (c : Thread nD τ) none Set.univ (Q := Q) (m := stage d) (r := stgR l) (S := (stg d l).view.set) (q := q) (f := (stg d l).view.rep V)
    (Finset.Subset.antisymm_iff.mp (stg_set d l)).2) $$ [Hs]
  · iexact Hs
  iintro Hs
  iapply Hk $$ [] [Hs]
  · ipureintro
    exact read_rep' (stg d l) V
  · iexact Hs

theorem slot_read (f : (comm d).view.ty.Contents (Elt F)) :
    (slot d l s).view.read (Elt F) f = shapeCast S256x2048 (((comm d).access (slotR l s)).read (Elt F) f) shapeCasts_S1x1x256x2048_S256x2048 := rfl

theorem slot_back (f : (comm d).view.ty.Contents (Elt F)) (y : FVec F S256x2048 .f32) :
    (slot d l s).view.read (Elt F) (((comm d).access (slotR l s)).write (Elt F) f (backP y) Finset.univ) = y := by
  rw [slot_read, View.read_write_univ]
  exact shapeCast_shapeCast y shapeCasts_S256x2048_S1x1x256x2048 shapeCasts_S1x1x256x2048_S256x2048

theorem wp_stSlot (V : FVec F S256x2048 .f32) (y : FVec F S256x2048 .f32) (k : Pg F PUnit) :
    held c (slot d l s) fullShare V
      ⊢ iprop((held c (slot d l s) fullShare y -∗ WP c k Q) -∗ WP c (stSlot d l s (backP y) k) Q) := by
  iintro Hs Hk
  unfold stSlot
  iapply (wp_store 𝒱₀ (c : Thread nD τ) none Set.univ (Q := Q) (m := comm d) (r := slotR l s) (Mk := Finset.univ) (S := (slot d l s).view.set) (f := (slot d l s).view.rep V)
    (by rw [View.setOn_univ]; exact (Finset.Subset.antisymm_iff.mp (slot_set d l s)).2)) $$ [Hs]
  · iexact Hs
  iintro Hs
  iapply Hk
  iapply (Entails.of_eq ((held_of c (slot d l s) fullShare _).trans (congrArg (held c (slot d l s) fullShare) _))) $$ Hs
  exact slot_back d l s _ y

variable (g : Memref sig .tc .vmem S1x2048 .f32)

theorem wp_ldG (f : Buf (Elt F) (g.view.loc (c : Thread nD τ))) (w : Vec F S1x2048 .f32) (hw : g.view.readAt (Elt F) (Rect.unit (s := S1x2048) ![0, 0] S1x2048.size inb_S1x2048_S1x2048_0_0).toLoadRect f = w)
    (k : Vec F S1x2048 .f32 → Pg F PUnit) :
    (g.view.loc (c : Thread nD τ) ↦{fullShare} f : PR F)
      ⊢ iprop(((g.view.loc (c : Thread nD τ) ↦{fullShare} f) -∗ WP c (k w) Q) -∗ WP c (ldG g k) Q) := by
  subst hw
  exact wp_load 𝒱₀ (c : Thread nD τ) none Set.univ (Q := Q) (m := g) (S := Finset.univ) (q := fullShare) (f := f) (Finset.subset_univ _)

end Mem

end Cert.Kernel.Ring

end
-- ==== Proof.K.Talk.lean ====
module

public import proofs.«01_k».proof.Proof.K.Ops

@[expose] public section

noncomputable section

namespace Cert.Kernel.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]
variable (X : Data F) (K : GSem nD τ sig → ℕ)

/-- The levels and every cell's invariant, at the names the launch chose. -/
def Ctx : PR F :=
  iprop(levAts L lv ∗ bigSep (Finset.univ : Finset (Dev nD × Cell)) fun p => cellInv ER (sched X) (K (cell p.1 p.2)) (cell p.1 p.2))

instance ctx_persistent : BI.Persistent (Ctx X K) := by unfold Ctx; infer_instance

theorem ctx_lev : Ctx X K ⊢ levAts L lv := by unfold Ctx; exact sep_elim_left

theorem ctx_inv (c : Dev nD) (k : Cell) : Ctx X K ⊢ cellInv ER (sched X) (K (cell c k)) (cell c k) := by
  unfold Ctx
  classical
  exact sep_elim_right.trans (bigSep_elim (Φ := fun p : Dev nD × Cell => cellInv ER (sched X) (K (cell p.1 p.2)) (cell p.1 p.2)) (Finset.mem_univ (c, k)))

/-- A device at a round of one of its cells. -/
def at' (c : Dev nD) (k : Cell) (r : ℕ) : PR F := iprop(atPos ER (cell c k) r ∅ 0 ∗ reached ER (cell c k) r)

section
variable (c : Dev nD) (Q : PUnit → PR F) (d : Bool) (l : Fin 2) (k : Pg F PUnit)

theorem half_send (G : ℕ) : 2 * (G / 2) + (sOf G).val = G := by show 2 * (G / 2) + G % 2 = G; omega
theorem half_recv (G : ℕ) : 2 * (G / 2) + (1 - (rOf G).val) = G := by show 2 * (G / 2) + (1 - (G + 1) % 2) = G; omega

theorem duties_send {G : ℕ} (h : G < 12) (d : Bool) (l s : Fin 2) : dutiesOf (kSend d l s) (G / 2) = {false} := if_pos (by omega)
theorem duties_recv {G : ℕ} (h : G < 12) (d : Bool) (l s : Fin 2) : dutiesOf (kRecv d l s) (G / 2) = {false} := if_pos (by omega)
theorem duties_crd {G : ℕ} (h : G < 11) (d : Bool) (l : Fin 2) : dutiesOf (kCrd d l) G = {false} := if_pos h

theorem mem_duty (c : Dev nD) (k : Cell) {r : ℕ} {d : Bool} (h : d ∈ dutiesOf k r) : d ∈ (sched X).duties (cell c k) r := by
  rw [duties_cell]; exact h

theorem bar_pay (c : Dev nD) (d : Bool) :
    (sched X).payload (cell (tgt d c) kBar) 0 (!d) = iprop(perm (frm (!d) c) (!d) 0 0 ∗ perm (frm (!d) c) (!d) 1 0) := by
  rw [payload_cell]
  show iprop(perm (tgt d c) (!d) 0 0 ∗ perm (tgt d c) (!d) 1 0) = _
  unfold frm
  rw [Bool.not_not]

theorem wp_send' {G : ℕ} (hG : G < 12) (O : CellTallies nD τ sig ℕ) {O₀ : CellTallies nD τ sig ℕ}
    (hO : O₀ = O + tallyAt (cell (tgt d c) (kRecv d l (rOf G))) G N) :
    iprop(Ctx X K ∗ held c (slot d l (sOf G)) qR (cnt X c d l G) ∗ perm c d l G ∗ reached ER (cell c (kCrd d l)) G ∗ reached ER (cell c (kSend d l (sOf G))) (G / 2)
        ∗ dutyTok ER (cell c (kSend d l (sOf G))) (G / 2) false ∗ dutyTok ER (cell (tgt d c) (kRecv d l (rOf G))) (G / 2) false ∗ Ow c O₀)
      ⊢ iprop((iprop(cred (tallyAt (cell c (kSend d l (sOf G))) 0 N) ∗ Ow c O) -∗ WP c k Q) -∗ WP c (send (place c) d l (sOf G) (rOf G) k) Q) := by
  unfold perm
  iintro ⟨#HC, Hs, ⟨⟨%f, Hd⟩, #Hrd⟩, #Hrc, #Hrs, Ht, Ht', ⟨%W, HO⟩⟩ Hk
  ihave #HI1 := (ctx_inv X K c (kSend d l (sOf G))) $$ HC
  ihave #HI2 := (ctx_inv X K (tgt d c) (kRecv d l (rOf G))) $$ HC
  unfold send
  iapply (Rounds.wp_send_pointsTo_with 𝒱₀ ER (sched X) (c : Thread nD τ) none (c' := (tgt d c : Thread nD τ)) (src := slot d l (sOf G)) (dst := slot d l (rOf G))
      (sS := .dma (sendS d l (sOf G))) (sem := .dma (recvS d l (rOf G))) (q := qR) (fs := (slot d l (sOf G)).view.rep (cnt X c d l G)) (fd := (slot d l (rOf G)).view.rep f)
      (F := reached ER (cell c (kCrd d l)) G)
      (κ₁ := K (cell c (kSend d l (sOf G)))) (κ₂ := K (cell (tgt d c) (kRecv d l (rOf G)))) (r₁ := G / 2) (r₂ := G / 2) (d₁ := false) (d₂ := false)
      (mem_duty X c (kSend d l (sOf G)) (by rw [duties_send hG]; exact Finset.mem_singleton_self _))
      (mem_duty X (tgt d c) (kRecv d l (rOf G)) (by rw [duties_recv hG]; exact Finset.mem_singleton_self _))
      G 0 N (slot_credit d l (rOf G)) (amount_cell X c (kSend d l (sOf G)) _ _) (amount_cell X (tgt d c) (kRecv d l (rOf G)) _ _) O hO (W := W)
      (Entails.of_eq (by
        refine Eq.trans ?_ (payload_cell X c (kSend d l (sOf G)) (G / 2) false).symm
        show _ = held c (slot d l (sOf G)) qR (cnt X c d l (2 * (G / 2) + (sOf G).val))
        rw [half_send]))
      (by
        refine BIBase.Entails.trans ?_ (Entails.of_eq (payload_cell X (tgt d c) (kRecv d l (rOf G)) (G / 2) false).symm)
        show _ ⊢ iprop(held (tgt d c) (slot d l (rOf G)) fullShare (cnt X (frm d (tgt d c)) d l (2 * (G / 2) + (1 - (rOf G).val)))
          ∗ reached ER (cell (frm d (tgt d c)) (kCrd d l)) (2 * (G / 2) + (1 - (rOf G).val)))
        rw [half_recv, frm_tgt]
        exact sep_mono_left (Entails.of_eq ((held_write (tgt d c) (slot d l (rOf G)) fullShare _ _).trans
          (congrArg (held (tgt d c) (slot d l (rOf G)) fullShare) (read_rep' (slot d l (sOf G)) _)))))) $$ [Hs Hd Ht Ht' HO]
  · isplitr; · iexact HI1
    isplitr; · iexact HI2
    isplitl [Hs]; · iexact Hs
    isplitl [Hd]
    · isplitl [Hd]; · iexact Hd
      iexact Hrc
    isplitl [HO]; · iexact HO
    isplitl [Ht]; · iexact Ht
    isplitr; · iexact Hrs
    isplitl [Ht']; · iexact Ht'
    iexact Hrd
  iintro ⟨Hc, HO⟩
  iapply Hk
  isplitl [Hc]; · iexact Hc
  iexists _; iexact HO

theorem wp_sendWait {G : ℕ} (hG : G < 12) {O : CellTallies nD τ sig ℕ} (hO : Above 0 O) :
    iprop(Ctx X K ∗ cred (tallyAt (cell c (kSend d l (sOf G))) 0 N) ∗ at' c (kSend d l (sOf G)) (G / 2) ∗ Ow c O)
      ⊢ iprop((iprop(held c (slot d l (sOf G)) qR (cnt X c d l G) ∗ at' c (kSend d l (sOf G)) (G / 2 + 1) ∗ Ow c O) -∗ WP c k Q)
          -∗ WP c (sendWait d l (sOf G) (rOf G) k) Q) := by
  unfold at'
  iintro ⟨#HC, Hc, ⟨Ha, -⟩, ⟨%W, HO⟩⟩ Hk
  ihave #HI := (ctx_inv X K c (kSend d l (sOf G))) $$ HC
  ihave #Hl := (ctx_lev X K) $$ HC
  unfold sendWait
  iapply (Rounds.wp_wait_rest_token 𝒱₀ ER (sched X) (c : Thread nD τ) none (κ := K (cell c (kSend d l (sOf G))))
      (wpE_waitDma2_eq 𝒱₀ (c : Thread nD τ) none Set.univ) (Set.mem_univ _) 0 (O := O) (W := W) (R := G / 2) (m := 0) (T := ∅)
      ((Nat.zero_add _).trans ((slot_credit d l (sOf G)).trans (expect_one X c (kSend d l (sOf G)) _ (duties_send hG d l _)).symm))) $$ [Hc HO Ha]
  · isplitr; · iexact HI
    isplitl [Hc]; · rw [slot_credit]; iexact Hc
    isplitl [HO]; · iexact HO
    isplitr
    · iapply (mayWait (c := c) (sm := sem (kSend d l (sOf G))) (ι := 0) (n := 0) (by decide) (Nat.le_of_eq (lv_cell c _ 0)) hO); iexact Hl
    iexact Ha
  iintro ⟨HO, Ha, #Hr, Hp⟩
  iapply Hk
  ihave Hp := (Entails.of_eq ((rest_one X c (kSend d l (sOf G)) (G / 2) (duties_send hG d l _)).trans
    (show _ = held c (slot d l (sOf G)) qR (cnt X c d l G) from congrArg (fun g => held c (slot d l (sOf G)) qR (cnt X c d l g)) (half_send G)))) $$ Hp
  isplitl [Hp]; · iexact Hp
  isplitl [Ha]
  · isplitl [Ha]; · iexact Ha
    iexact Hr
  iexists _; iexact HO

theorem wp_recvWait {G : ℕ} (hG : G < 12) {O : CellTallies nD τ sig ℕ} (hO : Above (4 * G + 2 + 2 * l.val) O) :
    iprop(Ctx X K ∗ cred (tallyAt (cell c (kRecv d l (rOf G))) G N) ∗ at' c (kRecv d l (rOf G)) (G / 2) ∗ Ow c O)
      ⊢ iprop((iprop(held c (slot d l (rOf G)) fullShare (cnt X (frm d c) d l G) ∗ reached ER (cell (frm d c) (kCrd d l)) G ∗ at' c (kRecv d l (rOf G)) (G / 2 + 1) ∗ Ow c O) -∗ WP c k Q)
          -∗ WP c (recvWait d l (sOf G) (rOf G) k) Q) := by
  unfold at'
  iintro ⟨#HC, Hc, ⟨Ha, -⟩, ⟨%W, HO⟩⟩ Hk
  ihave #HI := (ctx_inv X K c (kRecv d l (rOf G))) $$ HC
  ihave #Hl := (ctx_lev X K) $$ HC
  unfold recvWait
  iapply (Rounds.wp_wait_rest_token 𝒱₀ ER (sched X) (c : Thread nD τ) none (κ := K (cell c (kRecv d l (rOf G))))
      (wpE_waitDma2_eq 𝒱₀ (c : Thread nD τ) none Set.univ) (Set.mem_univ _) G (O := O) (W := W) (R := G / 2) (m := 0) (T := ∅)
      ((Nat.zero_add _).trans ((slot_credit d l (rOf G)).trans (expect_one X c (kRecv d l (rOf G)) _ (duties_recv hG d l _)).symm))) $$ [Hc HO Ha]
  · isplitr; · iexact HI
    isplitl [Hc]; · rw [slot_credit]; iexact Hc
    isplitl [HO]; · iexact HO
    isplitr
    · iapply (mayWait (c := c) (sm := sem (kRecv d l (rOf G))) (ι := G) (n := 4 * G + 2 + 2 * l.val) hG (Nat.le_of_eq (lv_cell c _ G)) hO); iexact Hl
    iexact Ha
  iintro ⟨HO, Ha, #Hr, Hp⟩
  iapply Hk
  ihave Hp := (Entails.of_eq ((rest_one X c (kRecv d l (rOf G)) (G / 2) (duties_recv hG d l _)).trans
    (show _ = iprop(held c (slot d l (rOf G)) fullShare (cnt X (frm d c) d l G) ∗ reached ER (cell (frm d c) (kCrd d l)) G) from
      congrArg (fun g => iprop(held c (slot d l (rOf G)) fullShare (cnt X (frm d c) d l g) ∗ reached ER (cell (frm d c) (kCrd d l)) g)) (half_recv G)))) $$ Hp
  icases Hp with ⟨Hp, Hrc⟩
  isplitl [Hp]; · iexact Hp
  isplitl [Hrc]; · iexact Hrc
  isplitl [Ha]
  · isplitl [Ha]; · iexact Ha
    iexact Hr
  iexists _; iexact HO

theorem perm_frm (G : ℕ) : (perm (frm d c) d l G : PR F) = iprop(some' c (slot d l (rOf G)) ∗ reached ER (cell c (kRecv d l (rOf G))) (G / 2)) := by
  unfold perm; rw [tgt_frm]

theorem wp_grant {G : ℕ} (hG : G < 11) (O : CellTallies nD τ sig ℕ) {O₀ : CellTallies nD τ sig ℕ} (hO : O₀ = O + tallyAt (cell (frm d c) (kCrd d l)) G 1) :
    iprop(Ctx X K ∗ some' c (slot d l (rOf (G + 1))) ∗ reached ER (cell c (kRecv d l (rOf (G + 1)))) ((G + 1) / 2) ∗ reached ER (cell (frm d c) (kCrd d l)) G
        ∗ dutyTok ER (cell (frm d c) (kCrd d l)) G false ∗ Ow c O₀)
      ⊢ iprop((Ow c O -∗ WP c k Q) -∗ WP c (grant (place c) d l k) Q) := by
  iintro ⟨#HC, Hs, #Hr, #Hrc, Ht, ⟨%W, HO⟩⟩ Hk
  ihave #HI := (ctx_inv X K (frm d c) (kCrd d l)) $$ HC
  unfold grant
  iapply (Rounds.wp_signal 𝒱₀ ER (sched X) (c : Thread nD τ) none (dst := (frm d c : Thread nD τ)) (sem := crdS d l) (r := G) (d := false) (κ := K (cell (frm d c) (kCrd d l)))
      (k' := 1) (mem_duty X (frm d c) (kCrd d l) (by rw [duties_crd hG]; exact Finset.mem_singleton_self _)) (amount_cell X (frm d c) (kCrd d l) G false) G O hO (W := W)) $$ [Hs Ht HO]
  · isplitr; · iexact HI
    isplitl [HO]; · iexact HO
    isplitl [Ht]; · iexact Ht
    isplitl [Hs]
    · iapply (Entails.of_eq ((perm_frm (F := F) c d l (G + 1)).symm.trans (payload_cell X (frm d c) (kCrd d l) G false).symm))
      isplitl [Hs]; · iexact Hs
      iexact Hr
    iexact Hrc
  iintro HO
  iapply Hk
  iexists _; iexact HO

theorem wp_grantWait {G : ℕ} (hG : G < 11) {O : CellTallies nD τ sig ℕ} (hO : Above (4 * G + 3 + 2 * l.val) O) :
    iprop(Ctx X K ∗ cred (tallyAt (cell c (kCrd d l)) G 1) ∗ at' c (kCrd d l) G ∗ Ow c O)
      ⊢ iprop((iprop(perm c d l (G + 1) ∗ at' c (kCrd d l) (G + 1) ∗ Ow c O) -∗ WP c k Q) -∗ WP c (grantWait d l k) Q) := by
  unfold at'
  iintro ⟨#HC, Hc, ⟨Ha, -⟩, ⟨%W, HO⟩⟩ Hk
  ihave #HI := (ctx_inv X K c (kCrd d l)) $$ HC
  ihave #Hl := (ctx_lev X K) $$ HC
  unfold grantWait
  iapply (Rounds.wp_wait_rest_token 𝒱₀ ER (sched X) (c : Thread nD τ) none (κ := K (cell c (kCrd d l))) (sm := sem (kCrd d l)) (k' := 1)
      (wpE_semWait_eq 𝒱₀ (c : Thread nD τ) none Set.univ) (Set.mem_univ _) G (O := O) (W := W) (R := G) (m := 0) (T := ∅)
      ((Nat.zero_add _).trans (expect_one X c (kCrd d l) _ (duties_crd hG d l)).symm)) $$ [Hc HO Ha]
  · isplitr; · iexact HI
    isplitl [Hc]; · iexact Hc
    isplitl [HO]; · iexact HO
    isplitr
    · iapply (mayWait (c := c) (sm := sem (kCrd d l)) (ι := G) (n := 4 * G + 3 + 2 * l.val) (by omega) (Nat.le_of_eq (lv_cell c _ G)) hO); iexact Hl
    iexact Ha
  iintro ⟨HO, Ha, #Hr, Hp⟩
  iapply Hk
  ihave Hp := (Entails.of_eq ((rest_one X c (kCrd d l) G (duties_crd hG d l)).trans (show _ = perm c d l (G + 1) from rfl))) $$ Hp
  isplitl [Hp]; · iexact Hp
  isplitl [Ha]
  · isplitl [Ha]; · iexact Ha
    iexact Hr
  iexists _; iexact HO

/-- What a device needs for the greeting: its own slots for what arrives first, to hand to its senders. -/
theorem wp_shake {O : CellTallies nD τ sig ℕ} (hO : Above 1 O) {O₀ : CellTallies nD τ sig ℕ}
    (hO₀ : O₀ = (O + tallyAt (cell (tgt false c) kBar) 0 1) + tallyAt (cell (tgt true c) kBar) 0 1) :
    iprop(Ctx X K ∗ (perm (frm false c) false 0 0 ∗ perm (frm false c) false 1 0) ∗ (perm (frm true c) true 0 0 ∗ perm (frm true c) true 1 0)
        ∗ dutyTok ER (cell (tgt true c) kBar) 0 false ∗ dutyTok ER (cell (tgt false c) kBar) 0 true
        ∗ reached ER (cell (tgt true c) kBar) 0 ∗ reached ER (cell (tgt false c) kBar) 0
        ∗ cred (tallyAt (cell c kBar) 0 2) ∗ atPos ER (cell c kBar) 0 ∅ 0 ∗ Ow c O₀)
      ⊢ iprop((iprop((perm c true 0 0 ∗ perm c true 1 0) ∗ (perm c false 0 0 ∗ perm c false 1 0) ∗ atPos ER (cell c kBar) 1 ∅ 0 ∗ Ow c O) -∗ WP c k Q)
          -∗ WP c (shake (place c) k) Q) := by
  iintro ⟨#HC, HpF, HpT, HtT, HtF, #HrT, #HrF, Hc, Ha, ⟨%W, HO⟩⟩ Hk
  ihave #HIT := (ctx_inv X K (tgt true c) kBar) $$ HC
  ihave #HIF := (ctx_inv X K (tgt false c) kBar) $$ HC
  ihave #HI := (ctx_inv X K c kBar) $$ HC
  ihave #Hl := (ctx_lev X K) $$ HC
  unfold shake
  iapply (Rounds.wp_signal 𝒱₀ ER (sched X) (c : Thread nD τ) none (dst := (tgt true c : Thread nD τ)) (sem := barS) (r := 0) (d := false) (κ := K (cell (tgt true c) kBar))
      (k' := 1) (mem_duty X (tgt true c) kBar (Finset.mem_univ _)) (amount_cell X (tgt true c) kBar 0 false) 0 _ hO₀ (W := W)) $$ [HpF HtT HO]
  · isplitr; · iexact HIT
    isplitl [HO]; · iexact HO
    isplitl [HtT]; · iexact HtT
    isplitl [HpF]
    · iapply (Entails.of_eq (show (sched X).payload (cell (tgt true c) kBar) 0 false = _ from bar_pay X c true).symm); iexact HpF
    iexact HrT
  iintro HO
  iapply (Rounds.wp_signal 𝒱₀ ER (sched X) (c : Thread nD τ) none (dst := (tgt false c : Thread nD τ)) (sem := barS) (r := 0) (d := true) (κ := K (cell (tgt false c) kBar))
      (k' := 1) (mem_duty X (tgt false c) kBar (Finset.mem_univ _)) (amount_cell X (tgt false c) kBar 0 true) 0 O rfl (W := W)) $$ [HpT HtF HO]
  · isplitr; · iexact HIF
    isplitl [HO]; · iexact HO
    isplitl [HtF]; · iexact HtF
    isplitl [HpT]
    · iapply (Entails.of_eq (show (sched X).payload (cell (tgt false c) kBar) 0 true = _ from bar_pay X c false).symm); iexact HpT
    iexact HrF
  iintro HO
  iapply (Rounds.wp_wait_rest_token 𝒱₀ ER (sched X) (c : Thread nD τ) none (κ := K (cell c kBar)) (sm := sem kBar) (k' := 2)
      (wpE_semWait_eq 𝒱₀ (c : Thread nD τ) none Set.univ) (Set.mem_univ _) 0 (O := O) (W := W) (R := 0) (m := 0) (T := ∅)
      ((Nat.zero_add _).trans (expect_bar X c).symm)) $$ [Hc HO Ha]
  · isplitr; · iexact HI
    isplitl [Hc]; · iexact Hc
    isplitl [HO]; · iexact HO
    isplitr
    · iapply (mayWait (c := c) (sm := sem kBar) (ι := 0) (n := 1) (by decide) (Nat.le_of_eq (lv_cell c _ 0)) hO); iexact Hl
    iexact Ha
  iintro ⟨HO, Ha, -, Hp⟩
  iapply Hk
  ihave Hp := (Entails.of_eq (rest_bar X c)) $$ Hp
  icases Hp with ⟨HpT, HpF⟩
  isplitl [HpT]; · iexact HpT
  isplitl [HpF]; · iexact HpF
  isplitl [Ha]; · iexact Ha
  iexists _; iexact HO

end

end Cert.Kernel.Ring

end
-- ==== Proof.K.Chain.lean ====
module

public import proofs.«01_k».proof.Proof.K.Talk

@[expose] public section

noncomputable section

namespace Cert.Kernel.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]
variable (X : Data F) (K : GSem nD τ sig → ℕ)

/-! ## What a chain has left to do -/

theorem ico_sep {a n : ℕ} (h : a < n) (Φ : ℕ → PR F) : bigSep (Finset.Ico a n) Φ = iprop(Φ a ∗ bigSep (Finset.Ico (a + 1) n) Φ) := by
  rw [ico_step h, bigSep_insert (ico_not a n)]
  rfl

theorem ico_none {a n : ℕ} (h : n ≤ a) (Φ : ℕ → PR F) : bigSep (Finset.Ico a n) Φ = iprop(emp) := by
  rw [Finset.Ico_eq_empty_of_le h, bigSep_empty]; rfl

theorem range_sep (n : ℕ) (Φ : ℕ → PR F) : bigSep (Finset.range (n + 1)) Φ = iprop(Φ n ∗ bigSep (Finset.range n) Φ) := by
  rw [Finset.range_add_one, bigSep_insert Finset.notMem_range_self]; rfl

section
variable (c : Dev nD) (d : Bool) (l : Fin 2)

/-- The duties of the sends from round `g` on. -/
def sTok (g : ℕ) : PR F := bigSep (Finset.Ico g 12) fun G =>
  iprop(dutyTok ER (cell c (kSend d l (sOf G))) (G / 2) false ∗ dutyTok ER (cell (tgt d c) (kRecv d l (rOf G))) (G / 2) false)

/-- The arrivals to wait for from round `g` on. -/
def rCred (g : ℕ) : PR F := bigSep (Finset.Ico g 12) fun G => cred (tallyAt (cell c (kRecv d l (rOf G))) G N)

/-- The duties of the grants from round `g` on. -/
def gTok (g : ℕ) : PR F := bigSep (Finset.Ico g 11) fun G => dutyTok ER (cell (frm d c) (kCrd d l)) G false

/-- The grants to wait for from round `g` on. -/
def gCred (g : ℕ) : PR F := bigSep (Finset.Ico g 11) fun G => cred (tallyAt (cell c (kCrd d l)) G 1)

theorem sTok_step {G : ℕ} (h : G < 12) : (sTok c d l G : PR F)
    = iprop((dutyTok ER (cell c (kSend d l (sOf G))) (G / 2) false ∗ dutyTok ER (cell (tgt d c) (kRecv d l (rOf G))) (G / 2) false) ∗ sTok c d l (G + 1)) := ico_sep h _
theorem rCred_step {G : ℕ} (h : G < 12) : (rCred c d l G : PR F) = iprop(cred (tallyAt (cell c (kRecv d l (rOf G))) G N) ∗ rCred c d l (G + 1)) := ico_sep h _
theorem gTok_step {G : ℕ} (h : G < 11) : (gTok c d l G : PR F) = iprop(dutyTok ER (cell (frm d c) (kCrd d l)) G false ∗ gTok c d l (G + 1)) := ico_sep h _
theorem gCred_step {G : ℕ} (h : G < 11) : (gCred c d l G : PR F) = iprop(cred (tallyAt (cell c (kCrd d l)) G 1) ∗ gCred c d l (G + 1)) := ico_sep h _

/-- Where a chain stands at its departure cells before round `G` is complete. -/
def sPos (G : ℕ) : PR F := iprop(at' c (kSend d l (sOf G)) (G / 2) ∗ at' c (kSend d l (rOf G)) ((G + 1) / 2))

/-- Where a chain stands at its arrival cells before round `G` is complete. -/
def rPos (G : ℕ) : PR F := iprop(at' c (kRecv d l (rOf G)) (G / 2) ∗ at' c (kRecv d l (sOf G)) ((G + 1) / 2))

theorem rOf_succ (G : ℕ) : rOf (G + 1) = sOf G := Fin.ext (by show (G + 1 + 1) % 2 = G % 2; omega)
theorem half_succ (G : ℕ) : (G + 1 + 1) / 2 = G / 2 + 1 := by omega

theorem sPos_next (G : ℕ) : (sPos c d l (G + 1) : PR F) = iprop(at' c (kSend d l (rOf G)) ((G + 1) / 2) ∗ at' c (kSend d l (sOf G)) (G / 2 + 1)) := by
  unfold sPos; rw [rOf_succ, half_succ]

theorem rPos_next (G : ℕ) : (rPos c d l (G + 1) : PR F) = iprop(at' c (kRecv d l (sOf G)) ((G + 1) / 2) ∗ at' c (kRecv d l (rOf G)) (G / 2 + 1)) := by
  unfold rPos; rw [rOf_succ, half_succ]

/-! ## The rows of the arrays -/

/-- The share of the inputs a chain reads with. -/
def qd (d : Bool) (l : Fin 2) : PosShare TreeShare :=
  match d, l with
  | false, 0 => fullShare.left.left
  | false, 1 => fullShare.left.right
  | true, 0 => fullShare.right.left
  | true, 1 => fullShare.right.right

/-- A whole array at a share. -/
abbrev all (M : Memref sig .tc .hbm S8192x2048 .f32) (q : PosShare TreeShare) (f : Buf (Elt F) (M.view.loc (c : Thread nD τ))) : PR F :=
  M.view.loc (c : Thread nD τ) ↦{q} f

/-- An array without some of its rows. -/
abbrev rest (M : Memref sig .tc .hbm S8192x2048 .f32) (o : Off) (q : PosShare TreeShare) (f : Buf (Elt F) (M.view.loc (c : Thread nD τ))) : PR F :=
  M.view.loc (c : Thread nD τ) ↦[Finset.univ \ (rows M o).view.set]{q} f

theorem all_split (M : Memref sig .tc .hbm S8192x2048 .f32) (o : Off) (q : PosShare TreeShare) (f : Buf (Elt F) (M.view.loc (c : Thread nD τ))) :
    (all c M q f : PR F) ⊣⊢ iprop(held c (rows M o) q ((rows M o).view.read (Elt F) f) ∗ rest c M o q f) := by
  have h := pointsTo_split_subset (Ix := ℕ) (Name := ℕ) (U := UU) (Lvl := ℕ) (ℓ := M.view.loc (c : Thread nD τ)) (q := q) (f := f) (Finset.subset_univ (rows M o).view.set)
  rw [show (M.view.loc (c : Thread nD τ) ↦[(rows M o).view.set]{q} f : PR F) = held c (rows M o) q ((rows M o).view.read (Elt F) f) from held_of c (rows M o) q f] at h
  exact h

/-- The summand and the residual at the chain's share. -/
abbrev all1 : PR F := all c (Memref.whole main_v1) (qd d l) (X.x c)
abbrev allR : PR F := all c (Memref.whole main_arg1) (qd d l) (X.r c)

theorem all1_split (o : Off) : all1 X c d l ⊣⊢ iprop(held c (rows (Memref.whole main_v1) o) (qd d l) (rowsOf (X.x c) o) ∗ rest c (Memref.whole main_v1) o (qd d l) (X.x c)) :=
  all_split c (Memref.whole main_v1) o (qd d l) (X.x c)
theorem allR_split (o : Off) : allR X c d l ⊣⊢ iprop(held c (rows (Memref.whole main_arg1) o) (qd d l) (rowsOf (X.r c) o) ∗ rest c (Memref.whole main_arg1) o (qd d l) (X.r c)) :=
  all_split c (Memref.whole main_arg1) o (qd d l) (X.r c)

/-! ## The state of the slots, the staging lane and the result's rows -/

/-- No store under way: the share of a slot that stays, and the store semaphore. -/
def oIdle (s : Fin 2) (V : FVec F S256x2048 .f32) : PR F := iprop(held c (slot d l s) qL V ∗ semVal ((c : Thread nD τ), .dma (outS d l)) 0)

/-- The store of a round under way. -/
def oFly (s : Fin 2) (o : Off) (V : FVec F S256x2048 .f32) : PR F :=
  Transfers.Flight EC (c : Thread nD τ) (.dma (outS d l)) 0 N iprop(held c (rows (Memref.whole main_v3) o) fullShare V ∗ held c (slot d l s) qL V)

/-- The rows stored before round `g`. -/
def done (g : ℕ) : PR F := bigSep (Finset.range g) fun G =>
  if 2 ≤ tOf G then held c (rows (Memref.whole main_v3) (outB c d l G)) fullShare (aft X c d l G) else iprop(emp)

/-- The rows to store from round `g` on. -/
def fresh (g : ℕ) : PR F := bigSep (Finset.Ico g 12) fun G =>
  if 2 ≤ tOf G then some' c (rows (Memref.whole main_v3) (outB c d l G)) else iprop(emp)

theorem done_step {G : ℕ} (h : 2 ≤ tOf G) : done X c d l (G + 1) = iprop(held c (rows (Memref.whole main_v3) (outB c d l G)) fullShare (aft X c d l G) ∗ done X c d l G) := by
  unfold done; rw [range_sep, if_pos h]

theorem done_skip {G : ℕ} (h : ¬2 ≤ tOf G) : done X c d l (G + 1) = done X c d l G := by
  unfold done; rw [range_sep, if_neg h]
  exact Entails.antisymm emp_sep.1 emp_sep.2

theorem fresh_step {G : ℕ} (h : 2 ≤ tOf G) (hG : G < 12) : (fresh c d l G : PR F) = iprop(some' c (rows (Memref.whole main_v3) (outB c d l G)) ∗ fresh c d l (G + 1)) := by
  unfold fresh; rw [ico_sep hG, if_pos h]

theorem fresh_skip {G : ℕ} (h : ¬2 ≤ tOf G) (hG : G < 12) : (fresh c d l G : PR F) = fresh c d l (G + 1) := by
  unfold fresh; rw [ico_sep hG, if_neg h]
  exact Entails.antisymm emp_sep.1 emp_sep.2

/-- The staging lane at rest. -/
def stIdle : PR F := iprop(some' c (stg d l) ∗ semVal ((c : Thread nD τ), .dma (locS d l)) 0)

/-- Rows of the summand on their way to the staging lane. -/
def stFly (o : Off) : PR F :=
  iprop(Transfers.Flight EC (c : Thread nD τ) (.dma (locS d l)) 0 N
      iprop(held c (stg d l) fullShare (rowsOf (X.x c) o) ∗ held c (rows (Memref.whole main_v1) o) (qd d l) (rowsOf (X.x c) o))
    ∗ rest c (Memref.whole main_v1) o (qd d l) (X.x c))

/-- What was stored last, before round `G` is complete. -/
def lastO (G : ℕ) : PR F :=
  if 3 ≤ tOf G then iprop(oFly c d l (sOf G) (outB c d l (G - 1)) (aft X c d l (G - 1)) ∗ done X c d l (G - 1))
  else iprop(oIdle c d l (sOf G) (cnt X c d l G) ∗ done X c d l G)

/-- The same, after round `G` is complete. -/
def nextO (G : ℕ) : PR F :=
  if 2 ≤ tOf G then iprop(oFly c d l (rOf G) (outB c d l G) (aft X c d l G) ∗ done X c d l G)
  else iprop(oIdle c d l (rOf G) (aft X c d l G) ∗ done X c d l (G + 1))

/-- What the chain loads in round `G`. -/
def lastS (G : ℕ) : PR F := if tOf G < 3 then stFly X c d l (outB c d l G) else iprop(stIdle c d l ∗ all1 X c d l)

/-- What the departure and arrival of round `G` need. -/
def talkM (G : ℕ) : PR F :=
  iprop(cred (tallyAt (cell c (kSend d l (sOf G))) 0 N) ∗ sPos c d l G ∗ rCred c d l G ∗ rPos c d l G)

/-- The rest of the chain's rights, in round `G`. -/
def moreM (G : ℕ) : PR F := iprop(sTok c d l (G + 1) ∗ gCred c d l G ∗ at' c (kCrd d l) G)

/-- A chain when round `G` is under way. -/
def stM (G : ℕ) : PR F :=
  iprop(talkM c d l G ∗ lastO X c d l G ∗ lastS X c d l G ∗ allR X c d l ∗ fresh c d l G ∗ gTok c d l G ∗ moreM c d l G)

/-- The slot that has left and is granted to nobody any more. -/
def keep (G : ℕ) : PR F := if G < 11 then iprop(emp) else some' c (slot d l (sOf G))

/-- A chain when round `G` is complete. -/
def stE (G : ℕ) : PR F :=
  iprop(keep c d l G ∗ (sPos c d l (G + 1) ∗ rCred c d l (G + 1) ∗ rPos c d l (G + 1)) ∗ (nextO X c d l G ∗ held c (slot d l (rOf G)) qR (aft X c d l G))
    ∗ (stIdle c d l ∗ all1 X c d l) ∗ allR X c d l ∗ fresh c d l (G + 1) ∗ gTok c d l (G + 1) ∗ moreM c d l G)

theorem part_eq {G : ℕ} (h : tOf G < 3) : (place c).part d (t3 G) (sub l (vOf G)) = outB c d l G := by
  have : (t3 G).val = tOf G := Nat.mod_eq_of_lt h
  show blk (back d ((t3 G).val + 1) c) d (sub l (vOf G)) = _
  rw [this]; rfl

theorem fin_eq {G : ℕ} (h : tOf G = 2) : (place c).fin d (sub l (vOf G)) = outB c d l G := by
  show blk (back d 3 c) d (sub l (vOf G)) = blk (back d (tOf G + 1) c) d (sub l (vOf G))
  rw [h]

theorem got_eq {G : ℕ} (h : 3 ≤ tOf G) : (place c).got d (t3 G) (sub l (vOf G)) = outB c d l G := by
  have h6 : tOf G < 6 := Nat.mod_lt _ (by decide)
  have : (t3 G).val + 4 = tOf G + 1 := by show tOf G % 3 + 4 = tOf G + 1; omega
  show blk (back d ((t3 G).val + 4) c) d (sub l (vOf G)) = _
  rw [this]; rfl

theorem cnt_zero {G : ℕ} (h : tOf G = 0) : cnt X c d l G = rowsOf (X.x c) (blk c d (sub l (vOf G))) := by
  unfold cnt; rw [h]; rfl

theorem aft_add {G : ℕ} (h : tOf G < 2) : aft X c d l G = addf (cnt X (frm d c) d l G) (rowsOf (X.x c) (outB c d l G)) := by
  unfold aft cnt outB
  show (if tOf G < 2 then _ else _) = _
  rw [if_pos h]

theorem aft_nrm {G : ℕ} (h : tOf G = 2) : aft X c d l G
    = nrmP (addf (addf (cnt X (frm d c) d l G) (rowsOf (X.x c) (outB c d l G))) (rowsOf (X.r c) (outB c d l G))) (X.w c) := by
  unfold aft cnt outB
  show (if tOf G < 2 then _ else if tOf G = 2 then _ else _) = _
  rw [if_neg (by omega), if_pos h]

theorem aft_got {G : ℕ} (h : 3 ≤ tOf G) : aft X c d l G = cnt X (frm d c) d l G := by
  unfold aft cnt
  show (if tOf G < 2 then _ else if tOf G = 2 then _ else _) = _
  rw [if_neg (by omega), if_neg (by omega)]

end

/-! ## Steps of one chain -/

section
variable (c : Dev nD) (Q : PUnit → PR F) (d : Bool) (l : Fin 2) (k : Pg F PUnit)

/-- A chain's slot leaves and the next arrives. -/
theorem wp_arrive {G : ℕ} (hG : G < 12) {O : CellTallies nD τ sig ℕ} (hO : Above (4 * G + 2 + 2 * l.val) O) :
    iprop(Ctx X K ∗ talkM c d l G ∗ Ow c O)
      ⊢ iprop((iprop(held c (slot d l (sOf G)) qR (cnt X c d l G) ∗ held c (slot d l (rOf G)) fullShare (cnt X (frm d c) d l G) ∗ reached ER (cell (frm d c) (kCrd d l)) G
            ∗ (sPos c d l (G + 1) ∗ rCred c d l (G + 1) ∗ rPos c d l (G + 1)) ∗ Ow c O) -∗ WP c k Q)
          -∗ WP c (sendWait d l (sOf G) (rOf G) <| recvWait d l (sOf G) (rOf G) k) Q) := by
  unfold talkM
  rw [rCred_step c d l hG]
  iintro ⟨#HC, ⟨Hc, Hsp, ⟨Hrc, Hrcs⟩, Hrp⟩, HO⟩ Hk
  unfold sPos rPos
  icases Hsp with ⟨Hs1, Hs2⟩
  icases Hrp with ⟨Hr1, Hr2⟩
  iapply (wp_sendWait X K c Q d l _ hG (hO.mono (Nat.zero_le _))) $$ [Hc Hs1 HO]
  · isplitr; · iexact HC
    isplitl [Hc]; · iexact Hc
    isplitl [Hs1]; · iexact Hs1
    iexact HO
  iintro ⟨Hs, Hs1, HO⟩
  iapply (wp_recvWait X K c Q d l _ hG hO) $$ [Hrc Hr1 HO]
  · isplitr; · iexact HC
    isplitl [Hrc]; · iexact Hrc
    isplitl [Hr1]; · iexact Hr1
    iexact HO
  iintro ⟨Hr, Hrr, Hr1, HO⟩
  iapply Hk
  isplitl [Hs]; · iexact Hs
  isplitl [Hr]; · iexact Hr
  isplitl [Hrr]; · iexact Hrr
  isplitl [Hs1 Hs2 Hr1 Hr2 Hrcs]
  · isplitl [Hs1 Hs2]
    · rw [rOf_succ, half_succ]
      isplitl [Hs2]; · iexact Hs2
      iexact Hs1
    isplitl [Hrcs]; · iexact Hrcs
    rw [rOf_succ, half_succ]
    isplitl [Hr2]; · iexact Hr2
    iexact Hr1
  iexact HO

/-- A chain lets its sender go on, handing it the slot that has left. -/
theorem wp_grantOne {G : ℕ} (hG : G < 11) (O : CellTallies nD τ sig ℕ) {O₀ : CellTallies nD τ sig ℕ} (hO : O₀ = O + tallyAt (cell (frm d c) (kCrd d l)) G 1) :
    iprop(Ctx X K ∗ held c (slot d l (sOf G)) fullShare (cnt X c d l G) ∗ rPos c d l (G + 1) ∗ reached ER (cell (frm d c) (kCrd d l)) G ∗ gTok c d l G ∗ Ow c O₀)
      ⊢ iprop((iprop(rPos c d l (G + 1) ∗ gTok c d l (G + 1) ∗ Ow c O) -∗ WP c k Q) -∗ WP c (grant (place c) d l k) Q) := by
  rw [gTok_step c d l hG]
  iintro ⟨#HC, Hs, Hrp, #Hrr, ⟨Ht, Hts⟩, HO⟩ Hk
  unfold rPos at'
  icases Hrp with ⟨⟨Ha, #Hr⟩, Hr2⟩
  iapply (wp_grant X K c Q d l k hG O hO) $$ [Hs Ht HO]
  · isplitr; · iexact HC
    isplitl [Hs]
    · rw [rOf_succ]; iexists _; iexact Hs
    isplitr; · iexact Hr
    isplitr; · iexact Hrr
    isplitl [Ht]; · iexact Ht
    iexact HO
  iintro HO
  iapply Hk
  isplitl [Ha Hr2]
  · isplitl [Ha]
    · isplitl [Ha]; · iexact Ha
      iexact Hr
    iexact Hr2
  isplitl [Hts]; · iexact Hts
  iexact HO

/-- A chain waits to be let go on. -/
theorem wp_grantWaitOne {G : ℕ} (hG : G < 11) {O : CellTallies nD τ sig ℕ} (hO : Above (4 * G + 3 + 2 * l.val) O) :
    iprop(Ctx X K ∗ (gCred c d l G ∗ at' c (kCrd d l) G) ∗ Ow c O)
      ⊢ iprop((iprop(perm c d l (G + 1) ∗ (gCred c d l (G + 1) ∗ at' c (kCrd d l) (G + 1)) ∗ Ow c O) -∗ WP c k Q) -∗ WP c (grantWait d l k) Q) := by
  rw [gCred_step c d l hG]
  iintro ⟨#HC, ⟨⟨Hc, Hcs⟩, Ha⟩, HO⟩ Hk
  iapply (wp_grantWait X K c Q d l k hG hO) $$ [Hc Ha HO]
  · isplitr; · iexact HC
    isplitl [Hc]; · iexact Hc
    isplitl [Ha]; · iexact Ha
    iexact HO
  iintro ⟨Hp, Ha, HO⟩
  iapply Hk
  isplitl [Hp]; · iexact Hp
  isplitl [Hcs Ha]
  · isplitl [Hcs]; · iexact Hcs
    iexact Ha
  iexact HO

/-- A chain sends its slot. -/
theorem wp_sendOne {G : ℕ} (hG : G < 12) (O : CellTallies nD τ sig ℕ) {O₀ : CellTallies nD τ sig ℕ}
    (hO : O₀ = O + tallyAt (cell (tgt d c) (kRecv d l (rOf G))) G N) :
    iprop(Ctx X K ∗ held c (slot d l (sOf G)) qR (cnt X c d l G) ∗ perm c d l G ∗ at' c (kCrd d l) G ∗ sPos c d l G ∗ sTok c d l G ∗ Ow c O₀)
      ⊢ iprop((iprop(cred (tallyAt (cell c (kSend d l (sOf G))) 0 N) ∗ at' c (kCrd d l) G ∗ sPos c d l G ∗ sTok c d l (G + 1) ∗ Ow c O) -∗ WP c k Q)
          -∗ WP c (send (place c) d l (sOf G) (rOf G) k) Q) := by
  rw [sTok_step c d l hG]
  unfold sPos at'
  iintro ⟨#HC, Hs, Hp, ⟨Ha, #Hrc⟩, ⟨⟨Hb, #Hrs⟩, Hs2⟩, ⟨⟨Ht, Ht'⟩, Hts⟩, HO⟩ Hk
  iapply (wp_send' X K c Q d l k hG O hO) $$ [Hs Hp Ht Ht' HO]
  · isplitr; · iexact HC
    isplitl [Hs]; · iexact Hs
    isplitl [Hp]; · iexact Hp
    isplitr; · iexact Hrc
    isplitr; · iexact Hrs
    isplitl [Ht]; · iexact Ht
    isplitl [Ht']; · iexact Ht'
    iexact HO
  iintro ⟨Hc, HO⟩
  iapply Hk
  isplitl [Hc]; · iexact Hc
  isplitl [Ha]
  · isplitl [Ha]; · iexact Ha
    iexact Hrc
  isplitl [Hb Hs2]
  · isplitl [Hb]
    · isplitl [Hb]; · iexact Hb
      iexact Hrs
    iexact Hs2
  isplitl [Hts]; · iexact Hts
  iexact HO

/-- A chain begins to load rows of the summand. -/
theorem wp_fetchOne (o : Off) :
    iprop(stIdle c d l ∗ all1 X c d l) ⊢ iprop((stFly X c d l o -∗ WP c k Q) -∗ WP c (loadStg (Memref.whole main_v1) d l o k) Q) := by
  unfold stIdle stFly
  iintro ⟨⟨Hs, Hv⟩, Hx⟩ Hk
  ihave Hx := (all1_split X c d l o).1 $$ Hx
  icases Hx with ⟨Hx, Hrest⟩
  iapply (wp_loadStg c Q d l o k (Memref.whole main_v1) (qd d l) (rowsOf (X.x c) o)) $$ [Hs Hv Hx]
  · isplitl [Hx]; · iexact Hx
    isplitl [Hs]; · iexact Hs
    iexact Hv
  iintro Hf
  iapply Hk
  isplitl [Hf]; · iexact Hf
  iexact Hrest

/-- Adding the staging lane to a slot. -/
theorem wp_accum (s : Fin 2) (V B : FVec F S256x2048 .f32) :
    iprop(held c (slot d l s) fullShare V ∗ held c (stg d l) fullShare B)
      ⊢ iprop((iprop(held c (slot d l s) fullShare (addf V B) ∗ held c (stg d l) fullShare B) -∗ WP c k Q) -∗ WP c (accum d l s k) Q) := by
  iintro ⟨Hs, Hb⟩ Hk
  unfold accum
  iapply (wp_ldSlot c Q d l s fullShare V _) $$ Hs
  iintro %a %ha Hs
  iapply (wp_ldStg c Q d l fullShare B _) $$ Hb
  iintro %b %hb Hb
  iapply (wp_ldSlot c Q d l s fullShare V _) $$ Hs
  iintro %a' %ha' Hs
  iapply (wp_stSlot c Q d l s V (addP a b) k) $$ Hs
  iintro Hs
  iapply Hk
  have h : addP a b = addf V B := by unfold addP; rw [ha, hb]
  rw [h]
  isplitl [Hs]; · iexact Hs
  iexact Hb

/-- What the scale's buffer holds. -/
def gH (g : Memref sig .tc .vmem S1x2048 .f32) : PR F :=
  iprop(∃ f, ⌜g.view.readAt (Elt F) (Rect.unit (s := S1x2048) ![0, 0] S1x2048.size inb_S1x2048_S1x2048_0_0).toLoadRect f = X.w c⌝ ∗ (g.view.loc (c : Thread nD τ) ↦{fullShare} f))

/-- Adding the staging lane to a slot and normalising. -/
theorem wp_finish (g : Memref sig .tc .vmem S1x2048 .f32) (s : Fin 2) (V B : FVec F S256x2048 .f32) :
    iprop(held c (slot d l s) fullShare V ∗ held c (stg d l) fullShare B ∗ gH X c g)
      ⊢ iprop((iprop(held c (slot d l s) fullShare (nrmP (addf V B) (X.w c)) ∗ held c (stg d l) fullShare B ∗ gH X c g) -∗ WP c k Q) -∗ WP c (finish g d l s k) Q) := by
  unfold gH
  iintro ⟨Hs, Hb, ⟨%f, %hf, Hg⟩⟩ Hk
  unfold finish
  iapply (wp_ldSlot c Q d l s fullShare V _) $$ Hs
  iintro %a %ha Hs
  iapply (wp_ldStg c Q d l fullShare B _) $$ Hb
  iintro %b %hb Hb
  iapply (wp_ldG c Q g f (X.w c) hf _) $$ Hg
  iintro Hg
  iapply (wp_ldSlot c Q d l s fullShare V _) $$ Hs
  iintro %a' %ha' Hs
  iapply (wp_stSlot c Q d l s V (nrmP (addP a b) (X.w c)) k) $$ Hs
  iintro Hs
  iapply Hk
  have h : addP a b = addf V B := by unfold addP; rw [ha, hb]
  rw [h]
  isplitl [Hs]; · iexact Hs
  isplitl [Hb]; · iexact Hb
  iexists f
  isplitr; · ipureintro; exact hf
  iexact Hg

/-- The rows loaded for round `G` are added to what arrived. -/
theorem wp_addOne (o : Off) (V : FVec F S256x2048 .f32) (s : Fin 2) (o' : Off) {O : CellTallies nD τ sig ℕ} (hO : Above 0 O) :
    iprop(Ctx X K ∗ stFly X c d l o ∗ held c (slot d l s) fullShare V ∗ Ow c O)
      ⊢ iprop((iprop((stIdle c d l ∗ all1 X c d l) ∗ held c (slot d l s) fullShare (addf V (rowsOf (X.x c) o)) ∗ Ow c O) -∗ WP c k Q)
          -∗ WP c (loadStgWait (Memref.whole main_v1) d l o' <| accum d l s k) Q) := by
  unfold stFly stIdle
  iintro ⟨#HC, ⟨Hf, Hrest⟩, Hs, HO⟩ Hk
  ihave #Hl := (ctx_lev X K) $$ HC
  iapply (wp_loadStgWait c Q d l o' _ (Memref.whole main_v1) hO _) $$ [Hf HO]
  · isplitr; · iexact Hl
    isplitl [Hf]; · iexact Hf
    iexact HO
  iintro ⟨⟨Hb, Hx⟩, Hv, HO⟩
  iapply (wp_accum c Q d l k s V _) $$ [Hs Hb]
  · isplitl [Hs]; · iexact Hs
    iexact Hb
  iintro ⟨Hs, Hb⟩
  iapply Hk
  isplitr [Hs HO]
  · isplitl [Hb Hv]
    · isplitl [Hb]; · iexists _; iexact Hb
      iexact Hv
    iapply (all1_split X c d l o).2
    isplitl [Hx]; · iexact Hx
    iexact Hrest
  isplitl [Hs]; · iexact Hs
  iexact HO

/-- A slot's store begins. -/
theorem wp_storeOne (s : Fin 2) (o : Off) (V : FVec F S256x2048 .f32) :
    iprop(held c (slot d l s) fullShare V ∗ some' c (rows (Memref.whole main_v3) o) ∗ semVal ((c : Thread nD τ), .dma (outS d l)) 0)
      ⊢ iprop((iprop(oFly c d l s o V ∗ held c (slot d l s) qR V) -∗ WP c k Q) -∗ WP c (storeOut d l s o k) Q) := by
  unfold oFly
  iintro ⟨Hs, Ho, Hv⟩ Hk
  ihave Hs := (held_share c (slot d l s) V).1 $$ Hs
  icases Hs with ⟨HsL, HsR⟩
  iapply (wp_storeOut c Q d l s o k V) $$ [HsL Ho Hv]
  · isplitl [HsL]; · iexact HsL
    isplitl [Ho]; · iexact Ho
    iexact Hv
  iintro Hf
  iapply Hk
  isplitl [Hf]; · iexact Hf
  iexact HsR

/-- The wait for a slot's store. -/
theorem wp_drainOne (s : Fin 2) (G : ℕ) (o : Off) (V : FVec F S256x2048 .f32) {O : CellTallies nD τ sig ℕ} (hO : Above 0 O) (P : Place) :
    iprop(Ctx X K ∗ oFly c d l s o V ∗ Ow c O)
      ⊢ iprop((iprop(held c (rows (Memref.whole main_v3) o) fullShare V ∗ held c (slot d l s) qL V ∗ semVal ((c : Thread nD τ), .dma (outS d l)) 0 ∗ Ow c O) -∗ WP c k Q)
          -∗ WP c (drain P d l G k) Q) := by
  unfold oFly drain
  iintro ⟨#HC, Hf, HO⟩ Hk
  ihave #Hl := (ctx_lev X K) $$ HC
  iapply (wp_storeWait c Q d l (sOf G) _ k hO _) $$ [Hf HO]
  · isplitr; · iexact Hl
    isplitl [Hf]; · iexact Hf
    iexact HO
  iintro ⟨⟨Ho, Hs⟩, Hv, HO⟩
  iapply Hk
  isplitl [Ho]; · iexact Ho
  isplitl [Hs]; · iexact Hs
  isplitl [Hv]; · iexact Hv
  iexact HO

end

end Cert.Kernel.Ring

end
-- ==== Proof.K.Lane.lean ====
module

public import proofs.«01_k».proof.Proof.K.Chain

@[expose] public section

noncomputable section

namespace Cert.Kernel.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]
variable (X : Data F) (K : GSem nD τ sig → ℕ)

/-! ## What a lane owes -/

/-- A lane's arrivals and grants yet to make. -/
def Lo (c : Dev nD) (l : Fin 2) (a b : ℕ) : CellTallies nD τ sig ℕ :=
  (owR c false l a + owC c false l b) + (owR c true l a + owC c true l b)

theorem above_Lo {c : Dev nD} {l : Fin 2} {a b n : ℕ} (ha : n < 4 * a + 2 + 2 * l.val) (hb : n < 4 * b + 3 + 2 * l.val) : Above n (Lo c l a b) :=
  ((above_owR c false l ha).add (above_owC c false l hb)).add ((above_owR c true l ha).add (above_owC c true l hb))

section
variable (c : Dev nD) (Q : PUnit → PR F) (l : Fin 2) (k : Pg F PUnit) (g : Memref sig .tc .vmem S1x2048 .f32)

theorem Lo_credF {a b : ℕ} (h : b < 11) (O : CellTallies nD τ sig ℕ) :
    Lo c l a b + O = ((owR c false l a + owC c false l (b + 1)) + (owR c true l a + owC c true l b) + O) + tallyAt (cell (frm false c) (kCrd false l)) b 1 := by
  unfold Lo; rw [owC_step c false l h]; ac_rfl

theorem Lo_credT {a b : ℕ} (h : b < 11) (O : CellTallies nD τ sig ℕ) :
    (owR c false l a + owC c false l (b + 1)) + (owR c true l a + owC c true l b) + O = (Lo c l a (b + 1) + O) + tallyAt (cell (frm true c) (kCrd true l)) b 1 := by
  unfold Lo; rw [owC_step c true l h]; ac_rfl

/-! ## Completing a round -/

/-- The stores of the round before are waited for. -/
theorem wp_drains {G : ℕ} {O : CellTallies nD τ sig ℕ} (hO : Above 0 O) :
    iprop(Ctx X K ∗ lastO X c false l G ∗ lastO X c true l G ∗ Ow c O)
      ⊢ iprop((iprop((oIdle c false l (sOf G) (cnt X c false l G) ∗ done X c false l G) ∗ (oIdle c true l (sOf G) (cnt X c true l G) ∗ done X c true l G) ∗ Ow c O) -∗ WP c k Q)
          -∗ WP c (onlyIf (3 ≤ tOf G) (fun k => drain (place c) false l G <| drain (place c) true l G k) k) Q) := by
  by_cases h : 3 ≤ tOf G
  · obtain ⟨H, rfl⟩ : ∃ H, G = H + 1 := ⟨G - 1, by unfold tOf at h; omega⟩
    have h2 : 2 ≤ tOf H := by unfold tOf at *; omega
    have h5 : tOf H ≠ 5 := by unfold tOf at *; omega
    unfold lastO onlyIf
    rw [if_pos h, if_pos h, if_pos h, Nat.add_sub_cancel, done_step X c false l h2, done_step X c true l h2, aft_eq X c false l H h5, aft_eq X c true l H h5]
    iintro ⟨#HC, ⟨Hf, Hdf⟩, ⟨Ht, Hdt⟩, HO⟩ Hk
    iapply (wp_drainOne X K c Q false l _ (sOf (H + 1)) (H + 1) _ _ hO (place c)) $$ [Hf HO]
    · isplitr; · iexact HC
      isplitl [Hf]; · iexact Hf
      iexact HO
    iintro ⟨Hof, Hsf, Hvf, HO⟩
    iapply (wp_drainOne X K c Q true l _ (sOf (H + 1)) (H + 1) _ _ hO (place c)) $$ [Ht HO]
    · isplitr; · iexact HC
      isplitl [Ht]; · iexact Ht
      iexact HO
    iintro ⟨Hot, Hst, Hvt, HO⟩
    iapply Hk
    unfold oIdle
    isplitl [Hof Hsf Hvf Hdf]
    · isplitl [Hsf Hvf]
      · isplitl [Hsf]; · iexact Hsf
        iexact Hvf
      isplitl [Hof]; · iexact Hof
      iexact Hdf
    isplitl [Hot Hst Hvt Hdt]
    · isplitl [Hst Hvt]
      · isplitl [Hst]; · iexact Hst
        iexact Hvt
      isplitl [Hot]; · iexact Hot
      iexact Hdt
    iexact HO
  · unfold lastO onlyIf
    rw [if_neg h, if_neg h, if_neg h]
    iintro ⟨-, Hf, Ht, HO⟩ Hk
    iapply Hk
    isplitl [Hf]; · iexact Hf
    isplitl [Ht]; · iexact Ht
    iexact HO

/-- What a chain holds before it lets its sender go on. -/
def preGrant (d : Bool) (G : ℕ) : PR F :=
  iprop(held c (slot d l (sOf G)) fullShare (cnt X c d l G) ∗ rPos c d l (G + 1) ∗ reached ER (cell (frm d c) (kCrd d l)) G ∗ gTok c d l G)

/-- What it holds after. -/
def postGrant (d : Bool) (G : ℕ) : PR F := iprop(keep c d l G ∗ rPos c d l (G + 1) ∗ gTok c d l (G + 1))

theorem gTok_end (d : Bool) {G : ℕ} (h : 11 ≤ G) : (gTok c d l G : PR F) = gTok c d l (G + 1) := by
  unfold gTok; rw [ico_none h, ico_none (by omega)]

theorem wp_grants {G : ℕ} (a : ℕ) (O : CellTallies nD τ sig ℕ) :
    iprop(Ctx X K ∗ preGrant X c l false G ∗ preGrant X c l true G ∗ Ow c (Lo c l a G + O))
      ⊢ iprop((iprop(postGrant c l false G ∗ postGrant c l true G ∗ Ow c (Lo c l a (G + 1) + O)) -∗ WP c k Q)
          -∗ WP c (onlyIf (G < 11) (fun k => grant (place c) false l <| grant (place c) true l k) k) Q) := by
  unfold preGrant postGrant keep onlyIf
  by_cases h : G < 11
  · rw [if_pos h, if_pos h, if_pos h]
    iintro ⟨#HC, ⟨Hsf, Hpf, Hrf, Htf⟩, ⟨Hst, Hpt, Hrt, Htt⟩, HO⟩ Hk
    iapply (wp_grantOne X K c Q false l _ h ((owR c false l a + owC c false l (G + 1)) + (owR c true l a + owC c true l G) + O)
      (Lo_credF c l h O)) $$ [Hsf Hpf Hrf Htf HO]
    · isplitr; · iexact HC
      isplitl [Hsf]; · iexact Hsf
      isplitl [Hpf]; · iexact Hpf
      isplitl [Hrf]; · iexact Hrf
      isplitl [Htf]; · iexact Htf
      iexact HO
    iintro ⟨Hpf, Htf, HO⟩
    iapply (wp_grantOne X K c Q true l _ h (Lo c l a (G + 1) + O)
      (Lo_credT c l h O)) $$ [Hst Hpt Hrt Htt HO]
    · isplitr; · iexact HC
      isplitl [Hst]; · iexact Hst
      isplitl [Hpt]; · iexact Hpt
      isplitl [Hrt]; · iexact Hrt
      isplitl [Htt]; · iexact Htt
      iexact HO
    iintro ⟨Hpt, Htt, HO⟩
    iapply Hk
    isplitl [Hpf Htf]
    · isplitr; · iempintro
      isplitl [Hpf]; · iexact Hpf
      iexact Htf
    isplitl [Hpt Htt]
    · isplitr; · iempintro
      isplitl [Hpt]; · iexact Hpt
      iexact Htt
    iexact HO
  · simp only [if_neg h]
    rw [gTok_end c l false (Nat.not_lt.mp h), gTok_end c l true (Nat.not_lt.mp h)]
    have hL : Lo c l a (G + 1) = Lo c l a G := by
      unfold Lo; rw [owC_end c false l (Nat.not_lt.mp h), owC_end c true l (Nat.not_lt.mp h), owC_end c false l (show 11 ≤ G + 1 by omega), owC_end c true l (show 11 ≤ G + 1 by omega)]
    rw [hL]
    iintro ⟨-, ⟨Hsf, Hpf, -, Htf⟩, ⟨Hst, Hpt, -, Htt⟩, HO⟩ Hk
    iapply Hk
    isplitl [Hsf Hpf Htf]
    · isplitl [Hsf]; · iexists _; iexact Hsf
      isplitl [Hpf]; · iexact Hpf
      iexact Htf
    isplitl [Hst Hpt Htt]
    · isplitl [Hst]; · iexists _; iexact Hst
      isplitl [Hpt]; · iexact Hpt
      iexact Htt
    iexact HO

/-- What a chain holds before it deals with what arrived. -/
def preIn (d : Bool) (G : ℕ) : PR F :=
  iprop(semVal ((c : Thread nD τ), .dma (outS d l)) 0 ∗ done X c d l G ∗ held c (slot d l (rOf G)) fullShare (cnt X (frm d c) d l G)
    ∗ lastS X c d l G ∗ allR X c d l ∗ fresh c d l G)

/-- What it holds after. -/
def postIn (d : Bool) (G : ℕ) : PR F :=
  iprop((nextO X c d l G ∗ held c (slot d l (rOf G)) qR (aft X c d l G)) ∗ (stIdle c d l ∗ all1 X c d l) ∗ allR X c d l ∗ fresh c d l (G + 1))

theorem wp_spread {G : ℕ} (hG : G < 12) (h : 3 ≤ tOf G) :
    iprop(preIn X c l false G ∗ preIn X c l true G)
      ⊢ iprop((iprop(postIn X c l false G ∗ postIn X c l true G) -∗ WP c k Q) -∗ WP c (spread (place c) l G k) Q) := by
  have h2 : 2 ≤ tOf G := by omega
  have h3 : ¬tOf G < 3 := by omega
  unfold preIn postIn spread lastS nextO
  rw [if_neg h3, if_neg h3, if_pos h2, if_pos h2, got_eq c false l h, got_eq c true l h, fresh_step c false l h2 hG, fresh_step c true l h2 hG,
    ← aft_got X c false l h, ← aft_got X c true l h]
  iintro ⟨⟨Hvf, Hdf, Hsf, Hlf, Hrf, ⟨Hof, Hff⟩⟩, ⟨Hvt, Hdt, Hst, Hlt, Hrt, ⟨Hot, Hft⟩⟩⟩ Hk
  iapply (wp_storeOne c Q false l _ (rOf G) _ _) $$ [Hvf Hsf Hof]
  · isplitl [Hsf]; · iexact Hsf
    isplitl [Hof]; · iexact Hof
    iexact Hvf
  iintro ⟨Hof, Hsf⟩
  iapply (wp_storeOne c Q true l _ (rOf G) _ _) $$ [Hvt Hst Hot]
  · isplitl [Hst]; · iexact Hst
    isplitl [Hot]; · iexact Hot
    iexact Hvt
  iintro ⟨Hot, Hst⟩
  iapply Hk
  isplitl [Hdf Hsf Hlf Hrf Hof Hff]
  · isplitl [Hdf Hsf Hof]
    · isplitl [Hdf Hof]
      · isplitl [Hof]; · iexact Hof
        iexact Hdf
      iexact Hsf
    isplitl [Hlf]; · iexact Hlf
    isplitl [Hrf]; · iexact Hrf
    iexact Hff
  · isplitl [Hdt Hst Hot]
    · isplitl [Hdt Hot]
      · isplitl [Hot]; · iexact Hot
        iexact Hdt
      iexact Hst
    isplitl [Hlt]; · iexact Hlt
    isplitl [Hrt]; · iexact Hrt
    iexact Hft

/-- Rows of the residual on their way to the staging lane. -/
def stFlyR (d : Bool) (o : Off) : PR F :=
  iprop(Transfers.Flight EC (c : Thread nD τ) (.dma (locS d l)) 0 N
      iprop(held c (stg d l) fullShare (rowsOf (X.r c) o) ∗ held c (rows (Memref.whole main_arg1) o) (qd d l) (rowsOf (X.r c) o))
    ∗ rest c (Memref.whole main_arg1) o (qd d l) (X.r c))

theorem wp_fetchR (d : Bool) (o : Off) :
    iprop(stIdle c d l ∗ allR X c d l) ⊢ iprop((stFlyR X c l d o -∗ WP c k Q) -∗ WP c (loadStg (Memref.whole main_arg1) d l o k) Q) := by
  unfold stIdle stFlyR
  iintro ⟨⟨Hs, Hv⟩, Hx⟩ Hk
  ihave Hx := (allR_split X c d l o).1 $$ Hx
  icases Hx with ⟨Hx, Hrest⟩
  iapply (wp_loadStg c Q d l o k (Memref.whole main_arg1) (qd d l) (rowsOf (X.r c) o)) $$ [Hs Hv Hx]
  · isplitl [Hx]; · iexact Hx
    isplitl [Hs]; · iexact Hs
    iexact Hv
  iintro Hf
  iapply Hk
  isplitl [Hf]; · iexact Hf
  iexact Hrest

theorem wp_fetchRWait (d : Bool) (o o' : Off) {O : CellTallies nD τ sig ℕ} (hO : Above 0 O) :
    iprop(Ctx X K ∗ stFlyR X c l d o ∗ Ow c O)
      ⊢ iprop((iprop(held c (stg d l) fullShare (rowsOf (X.r c) o) ∗ semVal ((c : Thread nD τ), .dma (locS d l)) 0 ∗ allR X c d l ∗ Ow c O) -∗ WP c k Q)
          -∗ WP c (loadStgWait (Memref.whole main_arg1) d l o' k) Q) := by
  unfold stFlyR
  iintro ⟨#HC, ⟨Hf, Hrest⟩, HO⟩ Hk
  ihave #Hl := (ctx_lev X K) $$ HC
  iapply (wp_loadStgWait c Q d l o' _ (Memref.whole main_arg1) hO _) $$ [Hf HO]
  · isplitr; · iexact Hl
    isplitl [Hf]; · iexact Hf
    iexact HO
  iintro ⟨⟨Hb, Hx⟩, Hv, HO⟩
  iapply Hk
  isplitl [Hb]; · iexact Hb
  isplitl [Hv]; · iexact Hv
  isplitr [HO]
  · iapply (allR_split X c d l o).2
    isplitl [Hx]; · iexact Hx
    iexact Hrest
  iexact HO

/-- What a chain holds between adding the last summand and concluding. -/
def preFin (d : Bool) (G : ℕ) : PR F :=
  iprop(semVal ((c : Thread nD τ), .dma (outS d l)) 0 ∗ held c (slot d l (rOf G)) fullShare (addf (cnt X (frm d c) d l G) (rowsOf (X.x c) (outB c d l G)))
    ∗ stIdle c d l ∗ allR X c d l ∗ some' c (rows (Memref.whole main_v3) (outB c d l G)))

/-- What it holds after. -/
def postFin (d : Bool) (G : ℕ) : PR F :=
  iprop((oFly c d l (rOf G) (outB c d l G) (aft X c d l G) ∗ held c (slot d l (rOf G)) qR (aft X c d l G)) ∗ stIdle c d l ∗ allR X c d l)

theorem wp_conclude {G : ℕ} (h : tOf G = 2) {O : CellTallies nD τ sig ℕ} (hO : Above 0 O) :
    iprop(Ctx X K ∗ preFin X c l false G ∗ preFin X c l true G ∗ gH X c g ∗ Ow c O)
      ⊢ iprop((iprop(postFin X c l false G ∗ postFin X c l true G ∗ gH X c g ∗ Ow c O) -∗ WP c k Q) -∗ WP c (conclude (place c) g l G k) Q) := by
  unfold preFin postFin conclude
  rw [fin_eq c false l h, fin_eq c true l h, aft_nrm X c false l h, aft_nrm X c true l h]
  iintro ⟨#HC, ⟨Hvf, Hsf, Hbf, Hrf, Hof⟩, ⟨Hvt, Hst, Hbt, Hrt, Hot⟩, Hg, HO⟩ Hk
  iapply (wp_fetchR X c Q l _ false (outB c false l G)) $$ [Hbf Hrf]
  · isplitl [Hbf]; · iexact Hbf
    iexact Hrf
  iintro Hff
  iapply (wp_fetchR X c Q l _ true (outB c true l G)) $$ [Hbt Hrt]
  · isplitl [Hbt]; · iexact Hbt
    iexact Hrt
  iintro Hft
  iapply (wp_fetchRWait X K c Q l _ false (outB c false l G) _ hO) $$ [Hff HO]
  · isplitr; · iexact HC
    isplitl [Hff]; · iexact Hff
    iexact HO
  iintro ⟨Hbf, Hlf, Hrf, HO⟩
  iapply (wp_fetchRWait X K c Q l _ true (outB c true l G) _ hO) $$ [Hft HO]
  · isplitr; · iexact HC
    isplitl [Hft]; · iexact Hft
    iexact HO
  iintro ⟨Hbt, Hlt, Hrt, HO⟩
  iapply (wp_finish X c Q false l _ g (rOf G) _ _) $$ [Hsf Hbf Hg]
  · isplitl [Hsf]; · iexact Hsf
    isplitl [Hbf]; · iexact Hbf
    iexact Hg
  iintro ⟨Hsf, Hbf, Hg⟩
  iapply (wp_storeOne c Q false l _ (rOf G) _ _) $$ [Hvf Hsf Hof]
  · isplitl [Hsf]; · iexact Hsf
    isplitl [Hof]; · iexact Hof
    iexact Hvf
  iintro ⟨Hof, Hsf⟩
  iapply (wp_finish X c Q true l _ g (rOf G) _ _) $$ [Hst Hbt Hg]
  · isplitl [Hst]; · iexact Hst
    isplitl [Hbt]; · iexact Hbt
    iexact Hg
  iintro ⟨Hst, Hbt, Hg⟩
  iapply (wp_storeOne c Q true l _ (rOf G) _ _) $$ [Hvt Hst Hot]
  · isplitl [Hst]; · iexact Hst
    isplitl [Hot]; · iexact Hot
    iexact Hvt
  iintro ⟨Hot, Hst⟩
  iapply Hk
  unfold stIdle
  isplitl [Hof Hsf Hbf Hlf Hrf]
  · isplitl [Hof Hsf]
    · isplitl [Hof]; · iexact Hof
      iexact Hsf
    isplitl [Hbf Hlf]
    · isplitl [Hbf]; · iexists _; iexact Hbf
      iexact Hlf
    iexact Hrf
  isplitl [Hot Hst Hbt Hlt Hrt]
  · isplitl [Hot Hst]
    · isplitl [Hot]; · iexact Hot
      iexact Hst
    isplitl [Hbt Hlt]
    · isplitl [Hbt]; · iexists _; iexact Hbt
      iexact Hlt
    iexact Hrt
  isplitl [Hg]; · iexact Hg
  iexact HO

/-- A sum at rest in its slot: what stays and what is sent. -/
theorem rest_in (d : Bool) {G : ℕ} (h : tOf G < 2) (hG : G < 12) :
    iprop(semVal ((c : Thread nD τ), .dma (outS d l)) 0 ∗ done X c d l G ∗ held c (slot d l (rOf G)) fullShare (aft X c d l G)
      ∗ (stIdle c d l ∗ all1 X c d l) ∗ allR X c d l ∗ fresh c d l G) ⊢ postIn X c l d G := by
  have h2 : ¬2 ≤ tOf G := by omega
  unfold postIn nextO oIdle
  rw [if_neg h2, done_skip X c d l h2, ← fresh_skip c d l h2 hG]
  iintro ⟨Hv, Hd, Hs, Hi, Hr, Hf⟩
  ihave Hs := (held_share c (slot d l (rOf G)) _).1 $$ Hs
  icases Hs with ⟨HsL, HsR⟩
  isplitl [Hv Hd HsL HsR]
  · isplitl [Hv Hd HsL]
    · isplitl [Hv HsL]
      · isplitl [HsL]; · iexact HsL
        iexact Hv
      iexact Hd
    iexact HsR
  isplitl [Hi]; · iexact Hi
  isplitl [Hr]; · iexact Hr
  iexact Hf

/-- What a chain holds once its own summand is added. -/
def preSum (d : Bool) (G : ℕ) : PR F :=
  iprop(semVal ((c : Thread nD τ), .dma (outS d l)) 0 ∗ done X c d l G
    ∗ held c (slot d l (rOf G)) fullShare (addf (cnt X (frm d c) d l G) (rowsOf (X.x c) (outB c d l G)))
    ∗ (stIdle c d l ∗ all1 X c d l) ∗ allR X c d l ∗ fresh c d l G)

theorem wp_concludeIf {G : ℕ} (hG : G < 12) (h : tOf G < 3) {O : CellTallies nD τ sig ℕ} (hO : Above 0 O) :
    iprop(Ctx X K ∗ preSum X c l false G ∗ preSum X c l true G ∗ gH X c g ∗ Ow c O)
      ⊢ iprop((iprop(postIn X c l false G ∗ postIn X c l true G ∗ gH X c g ∗ Ow c O) -∗ WP c k Q)
          -∗ WP c (onlyIf (tOf G = 2) (fun k => conclude (place c) g l G k) k) Q) := by
  unfold onlyIf preSum
  by_cases h2 : tOf G = 2
  · have h2' : 2 ≤ tOf G := Nat.le_of_eq h2.symm
    unfold postIn nextO
    rw [if_pos h2, fresh_step c false l h2' hG, fresh_step c true l h2' hG, if_pos h2', if_pos h2']
    iintro ⟨#HC, ⟨Hvf, Hdf, Hsf, ⟨Hif, Hxf⟩, Hrf, ⟨Hof, Hff⟩⟩, ⟨Hvt, Hdt, Hst, ⟨Hit, Hxt⟩, Hrt, ⟨Hot, Hft⟩⟩, Hg, HO⟩ Hk
    iapply (wp_conclude X K c Q l k g h2 hO) $$ [Hvf Hsf Hif Hrf Hof Hvt Hst Hit Hrt Hot Hg HO]
    · unfold preFin
      isplitr; · iexact HC
      isplitl [Hvf Hsf Hif Hrf Hof]
      · isplitl [Hvf]; · iexact Hvf
        isplitl [Hsf]; · iexact Hsf
        isplitl [Hif]; · iexact Hif
        isplitl [Hrf]; · iexact Hrf
        iexact Hof
      isplitl [Hvt Hst Hit Hrt Hot]
      · isplitl [Hvt]; · iexact Hvt
        isplitl [Hst]; · iexact Hst
        isplitl [Hit]; · iexact Hit
        isplitl [Hrt]; · iexact Hrt
        iexact Hot
      isplitl [Hg]; · iexact Hg
      iexact HO
    unfold postFin
    iintro ⟨⟨⟨Hof, Hsf⟩, Hif, Hrf⟩, ⟨⟨Hot, Hst⟩, Hit, Hrt⟩, Hg, HO⟩
    iapply Hk
    isplitl [Hof Hsf Hif Hrf Hdf Hxf Hff]
    · isplitl [Hof Hdf Hsf]
      · isplitl [Hof Hdf]
        · isplitl [Hof]; · iexact Hof
          iexact Hdf
        iexact Hsf
      isplitl [Hif Hxf]
      · isplitl [Hif]; · iexact Hif
        iexact Hxf
      isplitl [Hrf]; · iexact Hrf
      iexact Hff
    isplitl [Hot Hst Hit Hrt Hdt Hxt Hft]
    · isplitl [Hot Hdt Hst]
      · isplitl [Hot Hdt]
        · isplitl [Hot]; · iexact Hot
          iexact Hdt
        iexact Hst
      isplitl [Hit Hxt]
      · isplitl [Hit]; · iexact Hit
        iexact Hxt
      isplitl [Hrt]; · iexact Hrt
      iexact Hft
    isplitl [Hg]; · iexact Hg
    iexact HO
  · have h1 : tOf G < 2 := by omega
    rw [if_neg h2, ← aft_add X c false l h1, ← aft_add X c true l h1]
    iintro ⟨-, Hf, Ht, Hg, HO⟩ Hk
    iapply Hk
    isplitl [Hf]; · iapply (rest_in X c l false h1 hG); iexact Hf
    isplitl [Ht]; · iapply (rest_in X c l true h1 hG); iexact Ht
    isplitl [Hg]; · iexact Hg
    iexact HO

theorem wp_reduce {G : ℕ} (hG : G < 12) (h : tOf G < 3) {O : CellTallies nD τ sig ℕ} (hO : Above 0 O) :
    iprop(Ctx X K ∗ preIn X c l false G ∗ preIn X c l true G ∗ gH X c g ∗ Ow c O)
      ⊢ iprop((iprop(postIn X c l false G ∗ postIn X c l true G ∗ gH X c g ∗ Ow c O) -∗ WP c k Q) -∗ WP c (reduce (place c) g l G k) Q) := by
  unfold preIn reduce lastS
  rw [if_pos h, if_pos h]
  iintro ⟨#HC, ⟨Hvf, Hdf, Hsf, Hlf, Hrf, Hff⟩, ⟨Hvt, Hdt, Hst, Hlt, Hrt, Hft⟩, Hg, HO⟩ Hk
  iapply (wp_addOne X K c Q false l _ (outB c false l G) _ (rOf G) _ hO) $$ [Hlf Hsf HO]
  · isplitr; · iexact HC
    isplitl [Hlf]; · iexact Hlf
    isplitl [Hsf]; · iexact Hsf
    iexact HO
  iintro ⟨Hif, Hsf, HO⟩
  iapply (wp_addOne X K c Q true l _ (outB c true l G) _ (rOf G) _ hO) $$ [Hlt Hst HO]
  · isplitr; · iexact HC
    isplitl [Hlt]; · iexact Hlt
    isplitl [Hst]; · iexact Hst
    iexact HO
  iintro ⟨Hit, Hst, HO⟩
  iapply (wp_concludeIf X K c Q l k g hG h hO) $$ [Hvf Hdf Hsf Hif Hrf Hff Hvt Hdt Hst Hit Hrt Hft Hg HO]
  · unfold preSum
    isplitr; · iexact HC
    isplitl [Hvf Hdf Hsf Hif Hrf Hff]
    · isplitl [Hvf]; · iexact Hvf
      isplitl [Hdf]; · iexact Hdf
      isplitl [Hsf]; · iexact Hsf
      isplitl [Hif]; · iexact Hif
      isplitl [Hrf]; · iexact Hrf
      iexact Hff
    isplitl [Hvt Hdt Hst Hit Hrt Hft]
    · isplitl [Hvt]; · iexact Hvt
      isplitl [Hdt]; · iexact Hdt
      isplitl [Hst]; · iexact Hst
      isplitl [Hit]; · iexact Hit
      isplitl [Hrt]; · iexact Hrt
      iexact Hft
    isplitl [Hg]; · iexact Hg
    iexact HO
  iexact Hk

theorem wp_intake {G : ℕ} (hG : G < 12) {O : CellTallies nD τ sig ℕ} (hO : Above 0 O) :
    iprop(Ctx X K ∗ preIn X c l false G ∗ preIn X c l true G ∗ gH X c g ∗ Ow c O)
      ⊢ iprop((iprop(postIn X c l false G ∗ postIn X c l true G ∗ gH X c g ∗ Ow c O) -∗ WP c k Q)
          -∗ WP c (if tOf G < 3 then reduce (place c) g l G k else spread (place c) l G k) Q) := by
  by_cases h : tOf G < 3
  · rw [if_pos h]; exact wp_reduce X K c Q l k g hG h hO
  · rw [if_neg h]
    iintro ⟨-, Hf, Ht, Hg, HO⟩ Hk
    iapply (wp_spread X c Q l k hG (Nat.not_lt.mp h)) $$ [Hf Ht]
    · isplitl [Hf]; · iexact Hf
      iexact Ht
    iintro ⟨Hf, Ht⟩
    iapply Hk
    isplitl [Hf]; · iexact Hf
    isplitl [Ht]; · iexact Ht
    isplitl [Hg]; · iexact Hg
    iexact HO

/-- A lane completes a round. -/
theorem wp_complete {G : ℕ} (hG : G < 12) {O : CellTallies nD τ sig ℕ} (hO : Above (4 * G + 2 + 2 * l.val) O) :
    iprop(Ctx X K ∗ stM X c false l G ∗ stM X c true l G ∗ gH X c g ∗ Ow c (Lo c l (G + 1) G + O))
      ⊢ iprop((iprop(stE X c false l G ∗ stE X c true l G ∗ gH X c g ∗ Ow c (Lo c l (G + 1) (G + 1) + O)) -∗ WP c k Q)
          -∗ WP c (complete (place c) g l G k) Q) := by
  have hA : Above (4 * G + 2 + 2 * l.val) (Lo c l (G + 1) G + O) := (above_Lo (by omega) (by omega)).add hO
  unfold stM stE complete
  iintro ⟨#HC, ⟨Hmf, Hof, Hlf, Hrf, Hff, Hgf, Hxf⟩, ⟨Hmt, Hot, Hlt, Hrt, Hft, Hgt, Hxt⟩, Hg, HO⟩ Hk
  iapply (wp_arrive X K c Q false l _ hG hA) $$ [Hmf HO]
  · isplitr; · iexact HC
    isplitl [Hmf]; · iexact Hmf
    iexact HO
  iintro ⟨HsRf, Hvf, Hqf, ⟨Hspf, Hrcf, Hrpf⟩, HO⟩
  iapply (wp_arrive X K c Q true l _ hG hA) $$ [Hmt HO]
  · isplitr; · iexact HC
    isplitl [Hmt]; · iexact Hmt
    iexact HO
  iintro ⟨HsRt, Hvt, Hqt, ⟨Hspt, Hrct, Hrpt⟩, HO⟩
  iapply (wp_drains X K c Q l _ (hA.mono (Nat.zero_le _))) $$ [Hof Hot HO]
  · isplitr; · iexact HC
    isplitl [Hof]; · iexact Hof
    isplitl [Hot]; · iexact Hot
    iexact HO
  unfold oIdle
  iintro ⟨⟨⟨HsLf, Hosf⟩, Hdf⟩, ⟨⟨HsLt, Host⟩, Hdt⟩, HO⟩
  iapply (wp_grants X K c Q l _ (G + 1) O) $$ [HsLf HsRf Hrpf Hqf Hgf HsLt HsRt Hrpt Hqt Hgt HO]
  · unfold preGrant
    isplitr; · iexact HC
    isplitl [HsLf HsRf Hrpf Hqf Hgf]
    · isplitl [HsLf HsRf]
      · iapply (held_share c (slot false l (sOf G)) _).2
        isplitl [HsLf]; · iexact HsLf
        iexact HsRf
      isplitl [Hrpf]; · iexact Hrpf
      isplitl [Hqf]; · iexact Hqf
      iexact Hgf
    isplitl [HsLt HsRt Hrpt Hqt Hgt]
    · isplitl [HsLt HsRt]
      · iapply (held_share c (slot true l (sOf G)) _).2
        isplitl [HsLt]; · iexact HsLt
        iexact HsRt
      isplitl [Hrpt]; · iexact Hrpt
      isplitl [Hqt]; · iexact Hqt
      iexact Hgt
    iexact HO
  unfold postGrant
  iintro ⟨⟨Hkf, Hrpf, Hgf⟩, ⟨Hkt, Hrpt, Hgt⟩, HO⟩
  iapply (wp_intake X K c Q l k g hG (O := Lo c l (G + 1) (G + 1) + O) ((above_Lo (by omega) (by omega)).add (hO.mono (Nat.zero_le _))))
    $$ [Hosf Hdf Hvf Hlf Hrf Hff Host Hdt Hvt Hlt Hrt Hft Hg HO]
  · unfold preIn
    isplitr; · iexact HC
    isplitl [Hosf Hdf Hvf Hlf Hrf Hff]
    · isplitl [Hosf]; · iexact Hosf
      isplitl [Hdf]; · iexact Hdf
      isplitl [Hvf]; · iexact Hvf
      isplitl [Hlf]; · iexact Hlf
      isplitl [Hrf]; · iexact Hrf
      iexact Hff
    isplitl [Host Hdt Hvt Hlt Hrt Hft]
    · isplitl [Host]; · iexact Host
      isplitl [Hdt]; · iexact Hdt
      isplitl [Hvt]; · iexact Hvt
      isplitl [Hlt]; · iexact Hlt
      isplitl [Hrt]; · iexact Hrt
      iexact Hft
    isplitl [Hg]; · iexact Hg
    iexact HO
  unfold postIn
  iintro ⟨⟨Hnf, Hif, Hrf, Hff⟩, ⟨Hnt, Hit, Hrt, Hft⟩, Hg, HO⟩
  iapply Hk
  isplitl [Hkf Hspf Hrcf Hrpf Hnf Hif Hrf Hff Hgf Hxf]
  · isplitl [Hkf]; · iexact Hkf
    isplitl [Hspf Hrcf Hrpf]
    · isplitl [Hspf]; · iexact Hspf
      isplitl [Hrcf]; · iexact Hrcf
      iexact Hrpf
    isplitl [Hnf]; · iexact Hnf
    isplitl [Hif]; · iexact Hif
    isplitl [Hrf]; · iexact Hrf
    isplitl [Hff]; · iexact Hff
    isplitl [Hgf]; · iexact Hgf
    iexact Hxf
  isplitl [Hkt Hspt Hrct Hrpt Hnt Hit Hrt Hft Hgt Hxt]
  · isplitl [Hkt]; · iexact Hkt
    isplitl [Hspt Hrct Hrpt]
    · isplitl [Hspt]; · iexact Hspt
      isplitl [Hrct]; · iexact Hrct
      iexact Hrpt
    isplitl [Hnt]; · iexact Hnt
    isplitl [Hit]; · iexact Hit
    isplitl [Hrt]; · iexact Hrt
    isplitl [Hft]; · iexact Hft
    isplitl [Hgt]; · iexact Hgt
    iexact Hxt
  isplitl [Hg]; · iexact Hg
  iexact HO

end

end Cert.Kernel.Ring

end
-- ==== Proof.K.Issue.lean ====
module

public import proofs.«01_k».proof.Proof.K.Lane

@[expose] public section

noncomputable section

namespace Cert.Kernel.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]
variable (X : Data F) (K : GSem nD τ sig → ℕ)

section
variable (c : Dev nD) (Q : PUnit → PR F) (l : Fin 2) (k : Pg F PUnit) (g : Memref sig .tc .vmem S1x2048 .f32)

theorem Lo_sendF {a b : ℕ} (h : a < 12) (O : CellTallies nD τ sig ℕ) :
    Lo c l a b + O = ((owR c false l (a + 1) + owC c false l b) + (owR c true l a + owC c true l b) + O) + tallyAt (cell (tgt false c) (kRecv false l (rOf a))) a N := by
  unfold Lo; rw [owR_step c false l h]; ac_rfl

theorem Lo_sendT {a b : ℕ} (h : a < 12) (O : CellTallies nD τ sig ℕ) :
    (owR c false l (a + 1) + owC c false l b) + (owR c true l a + owC c true l b) + O
      = (Lo c l (a + 1) b + O) + tallyAt (cell (tgt true c) (kRecv true l (rOf a))) a N := by
  unfold Lo; rw [owR_step c true l h]; ac_rfl

/-! ## Departing -/

/-- A chain whose slot holds what it sends in round `G`. -/
def ready (d : Bool) (G : ℕ) : PR F := iprop(lastO X c d l G ∗ held c (slot d l (sOf G)) qR (cnt X c d l G))

/-- A chain whose slot is to take a new generation. -/
def old (d : Bool) (G : ℕ) : PR F :=
  if G ≠ 0 then iprop(oFly c d l (sOf G) (outB c d l (G - 1)) (aft X c d l (G - 1)) ∗ held c (slot d l (sOf G)) qR (aft X c d l (G - 1)) ∗ done X c d l (G - 1))
  else iprop(some' c (slot d l (sOf G)) ∗ semVal ((c : Thread nD τ), .dma (outS d l)) 0)

/-- A chain before it issues round `G`. -/
def before (d : Bool) (G : ℕ) : PR F := if tOf G = 0 then old X c l d G else ready X c l d G

theorem wp_drainIf (d : Bool) {G : ℕ} (h : tOf G = 0) {O : CellTallies nD τ sig ℕ} (hO : Above 0 O) :
    iprop(Ctx X K ∗ old X c l d G ∗ Ow c O)
      ⊢ iprop((iprop(some' c (slot d l (sOf G)) ∗ semVal ((c : Thread nD τ), .dma (outS d l)) 0 ∗ done X c d l G ∗ Ow c O) -∗ WP c k Q)
          -∗ WP c (onlyIf (G ≠ 0) (drain (place c) d l G) k) Q) := by
  unfold old onlyIf
  by_cases h0 : G ≠ 0
  · obtain ⟨H, rfl⟩ : ∃ H, G = H + 1 := ⟨G - 1, by omega⟩
    have h2 : 2 ≤ tOf H := by unfold tOf at *; omega
    rw [if_pos h0, if_pos h0, Nat.add_sub_cancel, done_step X c d l h2]
    iintro ⟨#HC, ⟨Hf, HsR, Hd⟩, HO⟩ Hk
    iapply (wp_drainOne X K c Q d l k (sOf (H + 1)) (H + 1) _ _ hO (place c)) $$ [Hf HO]
    · isplitr; · iexact HC
      isplitl [Hf]; · iexact Hf
      iexact HO
    iintro ⟨Ho, HsL, Hv, HO⟩
    iapply Hk
    isplitl [HsL HsR]
    · iexists _
      iapply (held_share c (slot d l (sOf (H + 1))) _).2
      isplitl [HsL]; · iexact HsL
      iexact HsR
    isplitl [Hv]; · iexact Hv
    isplitl [Ho Hd]
    · isplitl [Ho]; · iexact Ho
      iexact Hd
    iexact HO
  · obtain rfl : G = 0 := by omega
    have hd : done X c d l 0 = iprop(emp) := by unfold done; rw [Finset.range_zero, bigSep_empty]; rfl
    rw [if_neg h0, if_neg h0, hd]
    iintro ⟨-, ⟨Hs, Hv⟩, HO⟩ Hk
    iapply Hk
    isplitl [Hs]; · iexact Hs
    isplitl [Hv]; · iexact Hv
    isplitr; · iempintro
    iexact HO

/-- The device's own rows on their way to a slot. -/
def ownFly (d : Bool) (G : ℕ) : PR F :=
  iprop(Transfers.Flight EC (c : Thread nD τ) (.dma (locS d l)) 0 N
      iprop(held c (slot d l (sOf G)) fullShare (rowsOf (X.x c) (blk c d (sub l (vOf G)))) ∗ held c (rows (Memref.whole main_v1) (blk c d (sub l (vOf G)))) (qd d l) (rowsOf (X.x c) (blk c d (sub l (vOf G)))))
    ∗ some' c (stg d l) ∗ rest c (Memref.whole main_v1) (blk c d (sub l (vOf G))) (qd d l) (X.x c))

theorem wp_ownStart (d : Bool) (G : ℕ) :
    iprop(some' c (slot d l (sOf G)) ∗ stIdle c d l ∗ all1 X c d l)
      ⊢ iprop((ownFly X c l d G -∗ WP c k Q) -∗ WP c (loadSlot d l (sOf G) ((place c).own d (sub l (vOf G))) k) Q) := by
  unfold stIdle ownFly
  iintro ⟨Hs, ⟨Hb, Hv⟩, Hx⟩ Hk
  ihave Hx := (all1_split X c d l (blk c d (sub l (vOf G)))).1 $$ Hx
  icases Hx with ⟨Hx, Hrest⟩
  iapply (wp_loadSlot c Q d l (sOf G) (blk c d (sub l (vOf G))) k (qd d l) (rowsOf (X.x c) (blk c d (sub l (vOf G))))) $$ [Hs Hv Hx]
  · isplitl [Hx]; · iexact Hx
    isplitl [Hs]; · iexact Hs
    iexact Hv
  iintro Hf
  iapply Hk
  isplitl [Hf]; · iexact Hf
  isplitl [Hb]; · iexact Hb
  iexact Hrest

theorem wp_ownEnd (d : Bool) {G : ℕ} (h : tOf G = 0) (o : Off) {O : CellTallies nD τ sig ℕ} (hO : Above 0 O) :
    iprop(Ctx X K ∗ ownFly X c l d G ∗ semVal ((c : Thread nD τ), .dma (outS d l)) 0 ∗ done X c d l G ∗ Ow c O)
      ⊢ iprop((iprop(ready X c l d G ∗ (stIdle c d l ∗ all1 X c d l) ∗ Ow c O) -∗ WP c k Q) -∗ WP c (loadSlotWait d l (sOf G) o k) Q) := by
  have h3 : ¬3 ≤ tOf G := by omega
  unfold ownFly ready stIdle lastO oIdle
  rw [if_neg h3, cnt_zero X c d l h]
  iintro ⟨#HC, ⟨Hf, Hb, Hrest⟩, Ho, Hd, HO⟩ Hk
  ihave #Hl := (ctx_lev X K) $$ HC
  iapply (wp_loadSlotWait c Q d l (sOf G) o k hO _) $$ [Hf HO]
  · isplitr; · iexact Hl
    isplitl [Hf]; · iexact Hf
    iexact HO
  iintro ⟨⟨Hs, Hx⟩, Hv, HO⟩
  ihave Hs := (held_share c (slot d l (sOf G)) _).1 $$ Hs
  icases Hs with ⟨HsL, HsR⟩
  iapply Hk
  isplitl [Ho Hd HsL HsR]
  · isplitl [Ho Hd HsL]
    · isplitl [Ho HsL]
      · isplitl [HsL]; · iexact HsL
        iexact Ho
      iexact Hd
    iexact HsR
  isplitl [Hb Hv Hx Hrest]
  · isplitl [Hb Hv]
    · isplitl [Hb]; · iexact Hb
      iexact Hv
    iapply (all1_split X c d l (blk c d (sub l (vOf G)))).2
    isplitl [Hx]; · iexact Hx
    iexact Hrest
  iexact HO

theorem wp_refill {G : ℕ} (h : tOf G = 0) {O : CellTallies nD τ sig ℕ} (hO : Above 0 O) :
    iprop(Ctx X K ∗ (old X c l false G ∗ stIdle c false l ∗ all1 X c false l) ∗ (old X c l true G ∗ stIdle c true l ∗ all1 X c true l) ∗ Ow c O)
      ⊢ iprop((iprop((ready X c l false G ∗ stIdle c false l ∗ all1 X c false l) ∗ (ready X c l true G ∗ stIdle c true l ∗ all1 X c true l) ∗ Ow c O) -∗ WP c k Q)
          -∗ WP c (refill (place c) l G k) Q) := by
  unfold refill
  iintro ⟨#HC, ⟨Hof, Hlf⟩, ⟨Hot, Hlt⟩, HO⟩ Hk
  iapply (wp_drainIf X K c Q l _ false h hO) $$ [Hof HO]
  · isplitr; · iexact HC
    isplitl [Hof]; · iexact Hof
    iexact HO
  iintro ⟨Hsf, Hof, Hdf, HO⟩
  iapply (wp_ownStart X c Q l _ false G) $$ [Hsf Hlf]
  · isplitl [Hsf]; · iexact Hsf
    iexact Hlf
  iintro Hlf
  iapply (wp_drainIf X K c Q l _ true h hO) $$ [Hot HO]
  · isplitr; · iexact HC
    isplitl [Hot]; · iexact Hot
    iexact HO
  iintro ⟨Hst, Hot, Hdt, HO⟩
  iapply (wp_ownStart X c Q l _ true G) $$ [Hst Hlt]
  · isplitl [Hst]; · iexact Hst
    iexact Hlt
  iintro Hlt
  iapply (wp_ownEnd X K c Q l _ false h _ hO) $$ [Hlf Hof Hdf HO]
  · isplitr; · iexact HC
    isplitl [Hlf]; · iexact Hlf
    isplitl [Hof]; · iexact Hof
    isplitl [Hdf]; · iexact Hdf
    iexact HO
  iintro ⟨Hrf, Hif, HO⟩
  iapply (wp_ownEnd X K c Q l k true h _ hO) $$ [Hlt Hot Hdt HO]
  · isplitr; · iexact HC
    isplitl [Hlt]; · iexact Hlt
    isplitl [Hot]; · iexact Hot
    isplitl [Hdt]; · iexact Hdt
    iexact HO
  iintro ⟨Hrt, Hit, HO⟩
  iapply Hk
  isplitl [Hrf Hif]
  · isplitl [Hrf]; · iexact Hrf
    iexact Hif
  isplitl [Hrt Hit]
  · isplitl [Hrt]; · iexact Hrt
    iexact Hit
  iexact HO

theorem wp_refillIf (G : ℕ) {O : CellTallies nD τ sig ℕ} (hO : Above 0 O) :
    iprop(Ctx X K ∗ (before X c l false G ∗ stIdle c false l ∗ all1 X c false l) ∗ (before X c l true G ∗ stIdle c true l ∗ all1 X c true l) ∗ Ow c O)
      ⊢ iprop((iprop((ready X c l false G ∗ stIdle c false l ∗ all1 X c false l) ∗ (ready X c l true G ∗ stIdle c true l ∗ all1 X c true l) ∗ Ow c O) -∗ WP c k Q)
          -∗ WP c (onlyIf (tOf G = 0) (refill (place c) l G) k) Q) := by
  unfold before onlyIf
  by_cases h : tOf G = 0
  · rw [if_pos h, if_pos h, if_pos h]; exact wp_refill X K c Q l k h hO
  · rw [if_neg h, if_neg h, if_neg h]
    iintro ⟨-, H⟩ Hk
    iapply Hk; iexact H

/-- What a chain needs to be let go on in round `G`. -/
def leave (d : Bool) (G : ℕ) : PR F :=
  if 1 ≤ G then iprop(gCred c d l (G - 1) ∗ at' c (kCrd d l) (G - 1)) else iprop(perm c d l G ∗ gCred c d l G ∗ at' c (kCrd d l) G)

theorem wp_leave {G : ℕ} (hG : G < 12) {O : CellTallies nD τ sig ℕ} (hO : 1 ≤ G → Above (4 * (G - 1) + 3 + 2 * l.val) O) :
    iprop(Ctx X K ∗ leave c l false G ∗ leave c l true G ∗ Ow c O)
      ⊢ iprop((iprop((perm c false l G ∗ gCred c false l G ∗ at' c (kCrd false l) G) ∗ (perm c true l G ∗ gCred c true l G ∗ at' c (kCrd true l) G) ∗ Ow c O) -∗ WP c k Q)
          -∗ WP c (onlyIf (1 ≤ G) (fun k => grantWait false l <| grantWait true l k) k) Q) := by
  unfold leave onlyIf
  by_cases h : 1 ≤ G
  · obtain ⟨H, rfl⟩ : ∃ H, G = H + 1 := ⟨G - 1, by omega⟩
    have hO' := hO h
    rw [Nat.add_sub_cancel] at hO'
    rw [if_pos h, if_pos h, if_pos h, Nat.add_sub_cancel]
    iintro ⟨#HC, Hf, Ht, HO⟩ Hk
    iapply (wp_grantWaitOne X K c Q false l _ (show H < 11 by omega) hO') $$ [Hf HO]
    · isplitr; · iexact HC
      isplitl [Hf]; · iexact Hf
      iexact HO
    iintro ⟨Hpf, Hf, HO⟩
    iapply (wp_grantWaitOne X K c Q true l k (show H < 11 by omega) hO') $$ [Ht HO]
    · isplitr; · iexact HC
      isplitl [Ht]; · iexact Ht
      iexact HO
    iintro ⟨Hpt, Ht, HO⟩
    iapply Hk
    isplitl [Hpf Hf]
    · isplitl [Hpf]; · iexact Hpf
      iexact Hf
    isplitl [Hpt Ht]
    · isplitl [Hpt]; · iexact Hpt
      iexact Ht
    iexact HO
  · rw [if_neg h, if_neg h, if_neg h]
    iintro ⟨-, H⟩ Hk
    iapply Hk; iexact H

/-- The loads for round `G` begin. -/
theorem wp_fetchIf (G : ℕ) :
    iprop((stIdle c false l ∗ all1 X c false l) ∗ (stIdle c true l ∗ all1 X c true l))
      ⊢ iprop((iprop(lastS X c false l G ∗ lastS X c true l G) -∗ WP c k Q)
          -∗ WP c (onlyIf (tOf G < 3) (fun k =>
            loadStg (Memref.whole main_v1) false l ((place c).part false (t3 G) (sub l (vOf G))) <|
            loadStg (Memref.whole main_v1) true l ((place c).part true (t3 G) (sub l (vOf G))) k) k) Q) := by
  unfold lastS onlyIf
  by_cases h : tOf G < 3
  · rw [if_pos h, if_pos h, if_pos h, part_eq c false l h, part_eq c true l h]
    iintro ⟨Hf, Ht⟩ Hk
    iapply (wp_fetchOne X c Q false l _ _) $$ Hf
    iintro Hf
    iapply (wp_fetchOne X c Q true l _ _) $$ Ht
    iintro Ht
    iapply Hk
    isplitl [Hf]; · iexact Hf
    iexact Ht
  · rw [if_neg h, if_neg h, if_neg h]
    iintro H Hk
    iapply Hk; iexact H

/-- A chain before round `G` is issued. -/
def stI (d : Bool) (G : ℕ) : PR F :=
  iprop((before X c l d G ∗ stIdle c d l ∗ all1 X c d l) ∗ leave c l d G ∗ (sPos c d l G ∗ rCred c d l G ∗ rPos c d l G) ∗ allR X c d l ∗ fresh c d l G ∗ gTok c d l G ∗ sTok c d l G)

/-- A lane issues a round. -/
theorem wp_issue {G : ℕ} (hG : G < 12) {O : CellTallies nD τ sig ℕ} (hO₀ : Above 0 O) (hO : 1 ≤ G → Above (4 * (G - 1) + 3 + 2 * l.val) O) :
    iprop(Ctx X K ∗ stI X c l false G ∗ stI X c l true G ∗ Ow c (Lo c l G G + O))
      ⊢ iprop((iprop(stM X c false l G ∗ stM X c true l G ∗ Ow c (Lo c l (G + 1) G + O)) -∗ WP c k Q) -∗ WP c (issue (place c) l G k) Q) := by
  have hA : 1 ≤ G → Above (4 * (G - 1) + 3 + 2 * l.val) (Lo c l G G + O) := fun h => (above_Lo (by omega) (by omega)).add (hO h)
  have h0 : Above 0 (Lo c l G G + O) := (above_Lo (by omega) (by omega)).add hO₀
  unfold stI stM issue talkM moreM
  iintro ⟨#HC, ⟨Hbf, Hlf, ⟨Hspf, Hrcf, Hrpf⟩, Hrf, Hff, Hgf, Htf⟩, ⟨Hbt, Hlt, ⟨Hspt, Hrct, Hrpt⟩, Hrt, Hft, Hgt, Htt⟩, HO⟩ Hk
  iapply (wp_refillIf X K c Q l _ G h0) $$ [Hbf Hbt HO]
  · isplitr; · iexact HC
    isplitl [Hbf]; · iexact Hbf
    isplitl [Hbt]; · iexact Hbt
    iexact HO
  unfold ready
  iintro ⟨⟨⟨Hof, Hsf⟩, Hif⟩, ⟨⟨Hot, Hst⟩, Hit⟩, HO⟩
  iapply (wp_leave X K c Q l _ hG hA) $$ [Hlf Hlt HO]
  · isplitr; · iexact HC
    isplitl [Hlf]; · iexact Hlf
    isplitl [Hlt]; · iexact Hlt
    iexact HO
  iintro ⟨⟨Hpf, Hcf, Haf⟩, ⟨Hpt, Hct, Hat⟩, HO⟩
  iapply (wp_sendOne X K c Q false l _ hG _ (Lo_sendF c l hG O)) $$ [Hsf Hpf Haf Hspf Htf HO]
  · isplitr; · iexact HC
    isplitl [Hsf]; · iexact Hsf
    isplitl [Hpf]; · iexact Hpf
    isplitl [Haf]; · iexact Haf
    isplitl [Hspf]; · iexact Hspf
    isplitl [Htf]; · iexact Htf
    iexact HO
  iintro ⟨Hdf, Haf, Hspf, Htf, HO⟩
  iapply (wp_sendOne X K c Q true l _ hG _ (Lo_sendT c l hG O)) $$ [Hst Hpt Hat Hspt Htt HO]
  · isplitr; · iexact HC
    isplitl [Hst]; · iexact Hst
    isplitl [Hpt]; · iexact Hpt
    isplitl [Hat]; · iexact Hat
    isplitl [Hspt]; · iexact Hspt
    isplitl [Htt]; · iexact Htt
    iexact HO
  iintro ⟨Hdt, Hat, Hspt, Htt, HO⟩
  iapply (wp_fetchIf X c Q l k G) $$ [Hif Hit]
  · isplitl [Hif]; · iexact Hif
    iexact Hit
  iintro ⟨Hif, Hit⟩
  iapply Hk
  isplitl [Hdf Hspf Hrcf Hrpf Hof Hif Hrf Hff Hgf Htf Hcf Haf]
  · isplitl [Hdf Hspf Hrcf Hrpf]
    · isplitl [Hdf]; · iexact Hdf
      isplitl [Hspf]; · iexact Hspf
      isplitl [Hrcf]; · iexact Hrcf
      iexact Hrpf
    isplitl [Hof]; · iexact Hof
    isplitl [Hif]; · iexact Hif
    isplitl [Hrf]; · iexact Hrf
    isplitl [Hff]; · iexact Hff
    isplitl [Hgf]; · iexact Hgf
    isplitl [Htf]; · iexact Htf
    isplitl [Hcf]; · iexact Hcf
    iexact Haf
  isplitl [Hdt Hspt Hrct Hrpt Hot Hit Hrt Hft Hgt Htt Hct Hat]
  · isplitl [Hdt Hspt Hrct Hrpt]
    · isplitl [Hdt]; · iexact Hdt
      isplitl [Hspt]; · iexact Hspt
      isplitl [Hrct]; · iexact Hrct
      iexact Hrpt
    isplitl [Hot]; · iexact Hot
    isplitl [Hit]; · iexact Hit
    isplitl [Hrt]; · iexact Hrt
    isplitl [Hft]; · iexact Hft
    isplitl [Hgt]; · iexact Hgt
    isplitl [Htt]; · iexact Htt
    isplitl [Hct]; · iexact Hct
    iexact Hat
  iexact HO

theorem before_next (d : Bool) (G : ℕ) : iprop(nextO X c d l G ∗ held c (slot d l (rOf G)) qR (aft X c d l G)) ⊢ before X c l d (G + 1) := by
  have hs : sOf (G + 1) = rOf G := rfl
  unfold before old ready
  by_cases h : tOf (G + 1) = 0
  · have h2 : 2 ≤ tOf G := by unfold tOf at *; omega
    unfold nextO
    rw [if_pos h, if_pos (Nat.succ_ne_zero G), Nat.add_sub_cancel, hs, if_pos h2]
    iintro ⟨⟨Hf, Hd⟩, Hs⟩
    isplitl [Hf]; · iexact Hf
    isplitl [Hs]; · iexact Hs
    iexact Hd
  · have h5 : tOf G ≠ 5 := by unfold tOf at *; omega
    rw [if_neg h, hs, ← aft_eq X c d l G h5]
    unfold nextO lastO
    rw [Nat.add_sub_cancel, hs, ← aft_eq X c d l G h5]
    by_cases h2 : 2 ≤ tOf G
    · have h3 : 3 ≤ tOf (G + 1) := by unfold tOf at *; omega
      rw [if_pos h2, if_pos h3]
    · have h3 : ¬3 ≤ tOf (G + 1) := by unfold tOf at *; omega
      rw [if_neg h2, if_neg h3]

theorem stE_next (d : Bool) {G : ℕ} (hG : G < 11) : stE X c d l G ⊢ stI X c l d (G + 1) := by
  unfold stE stI moreM leave keep
  rw [if_pos hG, if_pos (Nat.le_add_left 1 G), Nat.add_sub_cancel]
  iintro ⟨-, Hp, Hn, Hi, Hr, Hf, Hg, ⟨Ht, Hc, Ha⟩⟩
  isplitl [Hn Hi]
  · isplitl [Hn]; · iapply (before_next X c l d G); iexact Hn
    iexact Hi
  isplitl [Hc Ha]
  · isplitl [Hc]; · iexact Hc
    iexact Ha
  isplitl [Hp]; · iexact Hp
  isplitl [Hr]; · iexact Hr
  isplitl [Hf]; · iexact Hf
  isplitl [Hg]; · iexact Hg
  iexact Ht

end

/-! ## The rounds -/

section
variable (c : Dev nD) (Q : PUnit → PR F) (k : Pg F PUnit) (g : Memref sig .tc .vmem S1x2048 .f32)

/-- Both lanes while round `G` is under way. -/
def midAll (G : ℕ) : PR F :=
  iprop((stM X c false 0 G ∗ stM X c true 0 G) ∗ (stM X c false 1 G ∗ stM X c true 1 G) ∗ gH X c g ∗ Ow c (Lo c 0 (G + 1) G + Lo c 1 (G + 1) G))

/-- Both lanes when every round is complete. -/
def endAll : PR F :=
  iprop((stE X c false 0 11 ∗ stE X c true 0 11) ∗ (stE X c false 1 11 ∗ stE X c true 1 11) ∗ gH X c g ∗ Ow c (0 : CellTallies nD τ sig ℕ))

theorem wp_round {G : ℕ} (hG : G < 11) :
    iprop(Ctx X K ∗ midAll X c g G) ⊢ iprop((midAll X c g (G + 1) -∗ WP c k Q) -∗ WP c (round (place c) g G k) Q) := by
  unfold midAll round
  iintro ⟨#HC, ⟨Haf, Hat⟩, ⟨Hbf, Hbt⟩, Hg, HO⟩ Hk
  iapply (wp_complete X K c Q 0 _ g (show G < 12 by omega) (O := Lo c 1 (G + 1) G)
    (above_Lo (by show _ < 4 * (G + 1) + 2 + 2 * 1; show 4 * G + 2 + 2 * 0 < _; omega) (by show 4 * G + 2 + 2 * 0 < 4 * G + 3 + 2 * 1; omega))) $$ [Haf Hat Hg HO]
  · isplitr; · iexact HC
    isplitl [Haf]; · iexact Haf
    isplitl [Hat]; · iexact Hat
    isplitl [Hg]; · iexact Hg
    iexact HO
  iintro ⟨Haf, Hat, Hg, HO⟩
  iapply (wp_issue X K c Q 0 _ (show G + 1 < 12 by omega) (O := Lo c 1 (G + 1) G)
    (above_Lo (by omega) (by omega)) (fun _ => above_Lo (by show 4 * (G + 1 - 1) + 3 + 2 * 0 < 4 * (G + 1) + 2 + 2 * 1; omega) (by show 4 * (G + 1 - 1) + 3 + 2 * 0 < 4 * G + 3 + 2 * 1; omega))) $$ [Haf Hat HO]
  · isplitr; · iexact HC
    isplitl [Haf]; · iapply (stE_next X c 0 false hG); iexact Haf
    isplitl [Hat]; · iapply (stE_next X c 0 true hG); iexact Hat
    iexact HO
  rw [add_comm (Lo c 0 (G + 1 + 1) (G + 1)) (Lo c 1 (G + 1) G)]
  iintro ⟨Haf, Hat, HO⟩
  iapply (wp_complete X K c Q 1 _ g (show G < 12 by omega) (O := Lo c 0 (G + 1 + 1) (G + 1))
    (above_Lo (by show 4 * G + 2 + 2 * 1 < 4 * (G + 1 + 1) + 2 + 2 * 0; omega) (by show 4 * G + 2 + 2 * 1 < 4 * (G + 1) + 3 + 2 * 0; omega))) $$ [Hbf Hbt Hg HO]
  · isplitr; · iexact HC
    isplitl [Hbf]; · iexact Hbf
    isplitl [Hbt]; · iexact Hbt
    isplitl [Hg]; · iexact Hg
    iexact HO
  iintro ⟨Hbf, Hbt, Hg, HO⟩
  iapply (wp_issue X K c Q 1 _ (show G + 1 < 12 by omega) (O := Lo c 0 (G + 1 + 1) (G + 1))
    (above_Lo (by omega) (by omega)) (fun _ => above_Lo (by show 4 * (G + 1 - 1) + 3 + 2 * 1 < 4 * (G + 1 + 1) + 2 + 2 * 0; omega) (by show 4 * (G + 1 - 1) + 3 + 2 * 1 < 4 * (G + 1) + 3 + 2 * 0; omega))) $$ [Hbf Hbt HO]
  · isplitr; · iexact HC
    isplitl [Hbf]; · iapply (stE_next X c 1 false hG); iexact Hbf
    isplitl [Hbt]; · iapply (stE_next X c 1 true hG); iexact Hbt
    iexact HO
  rw [add_comm (Lo c 1 (G + 1 + 1) (G + 1)) (Lo c 0 (G + 1 + 1) (G + 1))]
  iintro ⟨Hbf, Hbt, HO⟩
  iapply Hk
  isplitl [Haf Hat]
  · isplitl [Haf]; · iexact Haf
    iexact Hat
  isplitl [Hbf Hbt]
  · isplitl [Hbf]; · iexact Hbf
    iexact Hbt
  isplitl [Hg]; · iexact Hg
  iexact HO

theorem wp_rounds (n : ℕ) : ∀ G : ℕ, G + n ≤ 11 →
    (iprop(Ctx X K ∗ midAll X c g G) ⊢ iprop((midAll X c g (G + n) -∗ WP c k Q) -∗ WP c (rounds (place c) g n G k) Q)) := by
  induction n with
  | zero =>
    intro G _
    unfold rounds
    iintro ⟨-, H⟩ Hk
    iapply Hk; iexact H
  | succ n ih =>
    intro G hG
    have h := ih (G + 1) (by omega)
    rw [show G + 1 + n = G + (n + 1) by omega] at h
    unfold rounds
    iintro ⟨#HC, H⟩ Hk
    iapply (wp_round X K c Q _ g (show G < 11 by omega)) $$ [H]
    · isplitr; · iexact HC
      iexact H
    iintro H
    iapply h $$ [H]
    · isplitr; · iexact HC
      iexact H
    iexact Hk

/-- Both lanes complete the last round. -/
theorem wp_lastRound :
    iprop(Ctx X K ∗ midAll X c g 11) ⊢ iprop((endAll X c g -∗ WP c k Q) -∗ WP c (complete (place c) g 0 11 <| complete (place c) g 1 11 k) Q) := by
  have hz : ∀ l, Lo c l (11 + 1) (11 + 1) = 0 := fun l => by
    unfold Lo
    rw [owR_end c false l (Nat.le_refl 12), owR_end c true l (Nat.le_refl 12), owC_end c false l (show 11 ≤ 12 by decide), owC_end c true l (show 11 ≤ 12 by decide)]
    simp only [add_zero]
  unfold midAll endAll
  iintro ⟨#HC, ⟨Haf, Hat⟩, ⟨Hbf, Hbt⟩, Hg, HO⟩ Hk
  iapply (wp_complete X K c Q 0 _ g (show 11 < 12 by decide) (O := Lo c 1 (11 + 1) 11)
    (above_Lo (by decide) (by decide))) $$ [Haf Hat Hg HO]
  · isplitr; · iexact HC
    isplitl [Haf]; · iexact Haf
    isplitl [Hat]; · iexact Hat
    isplitl [Hg]; · iexact Hg
    iexact HO
  rw [hz 0, add_comm (0 : CellTallies nD τ sig ℕ)]
  iintro ⟨Haf, Hat, Hg, HO⟩
  iapply (wp_complete X K c Q 1 k g (show 11 < 12 by decide) (O := 0) (Above.zero _)) $$ [Hbf Hbt Hg HO]
  · isplitr; · iexact HC
    isplitl [Hbf]; · iexact Hbf
    isplitl [Hbt]; · iexact Hbt
    isplitl [Hg]; · iexact Hg
    iexact HO
  rw [hz 1, add_zero]
  iintro ⟨Hbf, Hbt, Hg, HO⟩
  iapply Hk
  isplitl [Haf Hat]
  · isplitl [Haf]; · iexact Haf
    iexact Hat
  isplitl [Hbf Hbt]
  · isplitl [Hbf]; · iexact Hbf
    iexact Hbt
  isplitl [Hg]; · iexact Hg
  iexact HO

/-- A chain when its last store is complete. -/
def stZ (d : Bool) (l : Fin 2) : PR F :=
  iprop((some' c (slot d l (sOf 11)) ∗ some' c (slot d l (rOf 11)) ∗ stIdle c d l) ∗ (all1 X c d l ∗ allR X c d l ∗ done X c d l 12)
    ∗ semVal ((c : Thread nD τ), .dma (outS d l)) 0 ∗ (sPos c d l 12 ∗ rPos c d l 12) ∗ at' c (kCrd d l) 11)

theorem wp_settleOne (d : Bool) (l : Fin 2) :
    iprop(Ctx X K ∗ stE X c d l 11 ∗ Ow c (0 : CellTallies nD τ sig ℕ))
      ⊢ iprop((iprop(stZ X c d l ∗ Ow c (0 : CellTallies nD τ sig ℕ)) -∗ WP c k Q) -∗ WP c (drain (place c) d l 12 k) Q) := by
  have h2 : 2 ≤ tOf 11 := by decide
  unfold stE stZ nextO moreM keep
  rw [if_neg (by decide), if_pos h2, show done X c d l 12 = _ from done_step X c d l h2]
  iintro ⟨#HC, ⟨Hk0, ⟨Hsp, -, Hrp⟩, ⟨⟨Hf, Hd⟩, HsR⟩, ⟨Hi, Hx⟩, Hr, -, -, ⟨-, -, Ha⟩⟩, HO⟩ Hk
  iapply (wp_drainOne X K c Q d l k (rOf 11) 12 _ _ (Above.zero 0) (place c)) $$ [Hf HO]
  · isplitr; · iexact HC
    isplitl [Hf]; · iexact Hf
    iexact HO
  iintro ⟨Ho, HsL, Hv, HO⟩
  iapply Hk
  isplitr [HO]
  · isplitl [Hk0 HsL HsR Hi]
    · isplitl [Hk0]; · iexact Hk0
      isplitl [HsL HsR]
      · iexists _
        iapply (held_share c (slot d l (rOf 11)) _).2
        isplitl [HsL]; · iexact HsL
        iexact HsR
      iexact Hi
    isplitl [Hx Hr Ho Hd]
    · isplitl [Hx]; · iexact Hx
      isplitl [Hr]; · iexact Hr
      isplitl [Ho]; · iexact Ho
      iexact Hd
    isplitl [Hv]; · iexact Hv
    isplitl [Hsp Hrp]
    · isplitl [Hsp]; · iexact Hsp
      iexact Hrp
    iexact Ha
  iexact HO

/-- All four chains at the end. -/
def stDone : PR F :=
  iprop((stZ X c false 0 ∗ stZ X c true 0) ∗ (stZ X c false 1 ∗ stZ X c true 1) ∗ gH X c g ∗ Ow c (0 : CellTallies nD τ sig ℕ))

theorem wp_settle :
    iprop(Ctx X K ∗ endAll X c g) ⊢ iprop((stDone X c g -∗ WP c (.ret ⟨⟩) Q) -∗ WP c (settle (place c)) Q) := by
  unfold endAll stDone settle
  iintro ⟨#HC, ⟨Haf, Hat⟩, ⟨Hbf, Hbt⟩, Hg, HO⟩ Hk
  iapply (wp_settleOne X K c Q _ false 0) $$ [Haf HO]
  · isplitr; · iexact HC
    isplitl [Haf]; · iexact Haf
    iexact HO
  iintro ⟨Haf, HO⟩
  iapply (wp_settleOne X K c Q _ false 1) $$ [Hbf HO]
  · isplitr; · iexact HC
    isplitl [Hbf]; · iexact Hbf
    iexact HO
  iintro ⟨Hbf, HO⟩
  iapply (wp_settleOne X K c Q _ true 0) $$ [Hat HO]
  · isplitr; · iexact HC
    isplitl [Hat]; · iexact Hat
    iexact HO
  iintro ⟨Hat, HO⟩
  iapply (wp_settleOne X K c Q _ true 1) $$ [Hbt HO]
  · isplitr; · iexact HC
    isplitl [Hbt]; · iexact Hbt
    iexact HO
  iintro ⟨Hbt, HO⟩
  iapply Hk
  isplitl [Haf Hat]
  · isplitl [Haf]; · iexact Haf
    iexact Hat
  isplitl [Hbf Hbt]
  · isplitl [Hbf]; · iexact Hbf
    iexact Hbt
  isplitl [Hg]; · iexact Hg
  iexact HO

end

end Cert.Kernel.Ring

end
-- ==== Proof.K.Body.lean ====
module

public import proofs.«01_k».proof.Proof.K.Issue
public import proofs.«01_k».proof.Proof.K.Same

@[expose] public section

noncomputable section

namespace Cert.Kernel.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]
variable (X : Data F) (K : GSem nD τ sig → ℕ)

section
variable (c : Dev nD) (d : Bool) (l : Fin 2)

/-- A chain's scratch. -/
def scratch : PR F := iprop(some' c (slot d l 0) ∗ some' c (slot d l 1) ∗ some' c (stg d l))

/-- A chain's rights in the whole run. -/
def rights : PR F := iprop(rCred c d l 0 ∗ gCred c d l 0 ∗ gTok c d l 0 ∗ sTok c d l 0)

/-- Where a chain stands at its cells. -/
def posAt (a b : ℕ) : PR F :=
  iprop((at' c (kSend d l 0) a ∗ at' c (kSend d l 1) a) ∗ (at' c (kRecv d l 0) a ∗ at' c (kRecv d l 1) a) ∗ at' c (kCrd d l) b)

/-- A chain's local semaphores. -/
def locals : PR F := iprop(semVal ((c : Thread nD τ), .dma (locS d l)) 0 ∗ semVal ((c : Thread nD τ), .dma (outS d l)) 0)

/-- A chain at the start. -/
def st0 : PR F := iprop(scratch c d l ∗ (all1 X c d l ∗ allR X c d l ∗ fresh c d l 0) ∗ locals c d l ∗ posAt c d l 0 0 ∗ rights c d l)

/-- A chain at the start, its neighbour let go on. -/
def stJ : PR F :=
  iprop((some' c (slot d l (sOf 0)) ∗ semVal ((c : Thread nD τ), .dma (outS d l)) 0) ∗ (stIdle c d l ∗ all1 X c d l) ∗ (gCred c d l 0 ∗ at' c (kCrd d l) 0)
    ∗ (sPos c d l 0 ∗ rCred c d l 0 ∗ rPos c d l 0) ∗ allR X c d l ∗ fresh c d l 0 ∗ gTok c d l 0 ∗ sTok c d l 0)

theorem st0_open : st0 X c d l ⊢ iprop(perm (frm d c) d l 0 ∗ stJ X c d l) := by
  have hs : sOf 0 = 0 := rfl
  have hr : rOf 0 = 1 := rfl
  rw [perm_frm]
  unfold st0 scratch rights posAt locals stJ stIdle sPos rPos
  rw [hs, hr]
  unfold at'
  iintro ⟨⟨H0, H1, Hb⟩, ⟨Hx, Hr, Hf⟩, ⟨Hl, Ho⟩, ⟨⟨Hs0, Hs1⟩, ⟨Hr0, ⟨Hr1, #Hq⟩⟩, Hc⟩, ⟨Hrc, Hgc, Hgt, Hst⟩⟩
  isplitl [H1]
  · isplitl [H1]; · iexact H1
    iexact Hq
  isplitl [H0 Ho]
  · isplitl [H0]; · iexact H0
    iexact Ho
  isplitl [Hb Hl Hx]
  · isplitl [Hb Hl]
    · isplitl [Hb]; · iexact Hb
      iexact Hl
    iexact Hx
  isplitl [Hgc Hc]
  · isplitl [Hgc]; · iexact Hgc
    iexact Hc
  isplitl [Hs0 Hs1 Hrc Hr0 Hr1]
  · isplitl [Hs0 Hs1]
    · isplitl [Hs0]; · iexact Hs0
      iexact Hs1
    isplitl [Hrc]; · iexact Hrc
    isplitl [Hr1]
    · isplitl [Hr1]; · iexact Hr1
      iexact Hq
    iexact Hr0
  isplitl [Hr]; · iexact Hr
  isplitl [Hf]; · iexact Hf
  isplitl [Hgt]; · iexact Hgt
  iexact Hst

theorem stJ_issue : iprop(perm c d l 0 ∗ stJ X c d l) ⊢ stI X c l d 0 := by
  unfold stJ stI before old leave
  rw [if_pos (show tOf 0 = 0 from rfl), if_neg (by decide), if_neg (by decide)]
  iintro ⟨Hp, Ho, Hi, Hc, Hq, Hr, Hf, Hgt, Hst⟩
  isplitl [Ho Hi]
  · isplitl [Ho]; · iexact Ho
    iexact Hi
  isplitl [Hp Hc]
  · isplitl [Hp]; · iexact Hp
    iexact Hc
  isplitl [Hq]; · iexact Hq
  isplitl [Hr]; · iexact Hr
  isplitl [Hf]; · iexact Hf
  isplitl [Hgt]; · iexact Hgt
  iexact Hst

/-- A cell past its last round gives its counter back. -/
theorem close_cell (k : Cell) : iprop(Ctx X K ∗ at' c k (lastOf k)) ⊢ (|={Set.univ}=> semVal (cell c k) 0 : PR F) := by
  unfold at'
  iintro ⟨#HC, Ha, -⟩
  ihave #HI := (ctx_inv X K c k) $$ HC
  iapply (Rounds.cell_close ER (sched X) (Set.mem_univ (K (cell c k))) id (duties_later X c k)) $$ [Ha]
  isplitr; · iexact HI
  iexact Ha

/-- The counters of a chain's cells. -/
def counters : PR F :=
  iprop((semVal (cell c (kSend d l 0)) 0 ∗ semVal (cell c (kSend d l 1)) 0) ∗ (semVal (cell c (kRecv d l 0)) 0 ∗ semVal (cell c (kRecv d l 1)) 0)
    ∗ semVal (cell c (kCrd d l)) 0)

theorem close_chain : iprop(Ctx X K ∗ posAt c d l 6 11) ⊢ (|={Set.univ}=> counters c d l : PR F) := by
  unfold posAt counters
  iintro ⟨#HC, ⟨Hs0, Hs1⟩, ⟨Hr0, Hr1⟩, Hc⟩
  imod (close_cell X K c (kSend d l 0)) $$ [Hs0] with Hs0
  · isplitr; · iexact HC
    iexact Hs0
  imod (close_cell X K c (kSend d l 1)) $$ [Hs1] with Hs1
  · isplitr; · iexact HC
    iexact Hs1
  imod (close_cell X K c (kRecv d l 0)) $$ [Hr0] with Hr0
  · isplitr; · iexact HC
    iexact Hr0
  imod (close_cell X K c (kRecv d l 1)) $$ [Hr1] with Hr1
  · isplitr; · iexact HC
    iexact Hr1
  imod (close_cell X K c (kCrd d l)) $$ [Hc] with Hc
  · isplitr; · iexact HC
    iexact Hc
  imodintro
  isplitl [Hs0 Hs1]
  · isplitl [Hs0]; · iexact Hs0
    iexact Hs1
  isplitl [Hr0 Hr1]
  · isplitl [Hr0]; · iexact Hr0
    iexact Hr1
  iexact Hc

/-- A chain at the end. -/
def stFin : PR F := iprop(scratch c d l ∗ (all1 X c d l ∗ allR X c d l ∗ done X c d l 12) ∗ locals c d l ∗ counters c d l)

theorem stZ_close : iprop(Ctx X K ∗ stZ X c d l) ⊢ (|={Set.univ}=> stFin X c d l : PR F) := by
  have hs : sOf 11 = 1 := rfl
  have hr : rOf 11 = 0 := rfl
  have hs' : sOf 12 = 0 := rfl
  have hr' : rOf 12 = 1 := rfl
  unfold stZ stFin stIdle scratch locals sPos rPos
  rw [hs, hr, hs', hr']
  iintro ⟨#HC, ⟨H1, H0, ⟨Hb, Hl⟩⟩, Hx, Ho, ⟨⟨Hs0, Hs1⟩, ⟨Hr1, Hr0⟩⟩, Hc⟩
  imod (close_chain X K c d l) $$ [Hs0 Hs1 Hr0 Hr1 Hc] with Hq
  · unfold posAt
    isplitr; · iexact HC
    isplitl [Hs0 Hs1]
    · isplitl [Hs0]; · iexact Hs0
      iexact Hs1
    isplitl [Hr0 Hr1]
    · isplitl [Hr0]; · iexact Hr0
      iexact Hr1
    iexact Hc
  imodintro
  isplitl [H0 H1 Hb]
  · isplitl [H0]; · iexact H0
    isplitl [H1]; · iexact H1
    iexact Hb
  isplitl [Hx]; · iexact Hx
  isplitl [Hl Ho]
  · isplitl [Hl]; · iexact Hl
    iexact Ho
  iexact Hq

end

section
variable (c : Dev nD) (Q : PUnit → PR F) (g : Memref sig .tc .vmem S1x2048 .f32)

/-- What a device owes in the whole run. -/
def O₀ (c : Dev nD) : CellTallies nD τ sig ℕ := ((Lo c 0 0 0 + Lo c 1 0 0) + tallyAt (cell (tgt false c) kBar) 0 1) + tallyAt (cell (tgt true c) kBar) 0 1

/-- What the neighbours' greeting needs. -/
def greet : PR F :=
  iprop(dutyTok ER (cell (tgt true c) kBar) 0 false ∗ dutyTok ER (cell (tgt false c) kBar) 0 true
    ∗ reached ER (cell (tgt true c) kBar) 0 ∗ reached ER (cell (tgt false c) kBar) 0
    ∗ cred (tallyAt (cell c kBar) 0 2) ∗ atPos ER (cell c kBar) 0 ∅ 0)

/-- The four chains. -/
def four (Φ : Bool → Fin 2 → PR F) : PR F := iprop((Φ false 0 ∗ Φ true 0) ∗ (Φ false 1 ∗ Φ true 1))

theorem wp_stop : WP c (.ret ⟨⟩) Q = iprop(|={Set.univ}=> Q ⟨⟩) := wp_ret ..

/-- The ring's run on one device. -/
theorem wp_prog :
    iprop(Ctx X K ∗ four (st0 X c) ∗ greet c ∗ gH X c g ∗ Ow c (O₀ c))
      ⊢ iprop((iprop(four (stFin X c) ∗ semVal (cell c kBar) 0 ∗ gH X c g ∗ Ow c (0 : CellTallies nD τ sig ℕ)) -∗ Q ⟨⟩) -∗ WP c (prog (place c) g) Q) := by
  unfold four greet prog
  iintro ⟨#HC, ⟨⟨Haf, Hat⟩, ⟨Hbf, Hbt⟩⟩, ⟨Ht1, Ht2, Hr1, Hr2, Hcb, Hab⟩, Hg, HO⟩ Hk
  ihave Haf := (st0_open X c false 0) $$ Haf
  icases Haf with ⟨Hpaf, Haf⟩
  ihave Hat := (st0_open X c true 0) $$ Hat
  icases Hat with ⟨Hpat, Hat⟩
  ihave Hbf := (st0_open X c false 1) $$ Hbf
  icases Hbf with ⟨Hpbf, Hbf⟩
  ihave Hbt := (st0_open X c true 1) $$ Hbt
  icases Hbt with ⟨Hpbt, Hbt⟩
  iapply (wp_shake X K c Q _ (O := Lo c 0 0 0 + Lo c 1 0 0) ((above_Lo (by decide) (by decide)).add (above_Lo (by decide) (by decide))) (O₀ := O₀ c) rfl)
    $$ [Hpaf Hpat Hpbf Hpbt Ht1 Ht2 Hr1 Hr2 Hcb Hab HO]
  · isplitr; · iexact HC
    isplitl [Hpaf Hpbf]
    · isplitl [Hpaf]; · iexact Hpaf
      iexact Hpbf
    isplitl [Hpat Hpbt]
    · isplitl [Hpat]; · iexact Hpat
      iexact Hpbt
    isplitl [Ht1]; · iexact Ht1
    isplitl [Ht2]; · iexact Ht2
    isplitl [Hr1]; · iexact Hr1
    isplitl [Hr2]; · iexact Hr2
    isplitl [Hcb]; · iexact Hcb
    isplitl [Hab]; · iexact Hab
    iexact HO
  iintro ⟨⟨Hpat, Hpbt⟩, ⟨Hpaf, Hpbf⟩, Hab, HO⟩
  iapply (wp_issue X K c Q 0 _ (show 0 < 12 by decide) (O := Lo c 1 0 0) (above_Lo (by decide) (by decide)) (fun h => absurd h (by decide))) $$ [Hpaf Haf Hpat Hat HO]
  · isplitr; · iexact HC
    isplitl [Hpaf Haf]
    · iapply (stJ_issue X c false 0)
      isplitl [Hpaf]; · iexact Hpaf
      iexact Haf
    isplitl [Hpat Hat]
    · iapply (stJ_issue X c true 0)
      isplitl [Hpat]; · iexact Hpat
      iexact Hat
    iexact HO
  rw [add_comm (Lo c 0 (0 + 1) 0) (Lo c 1 0 0)]
  iintro ⟨Haf, Hat, HO⟩
  iapply (wp_issue X K c Q 1 _ (show 0 < 12 by decide) (O := Lo c 0 (0 + 1) 0) (above_Lo (by decide) (by decide)) (fun h => absurd h (by decide))) $$ [Hpbf Hbf Hpbt Hbt HO]
  · isplitr; · iexact HC
    isplitl [Hpbf Hbf]
    · iapply (stJ_issue X c false 1)
      isplitl [Hpbf]; · iexact Hpbf
      iexact Hbf
    isplitl [Hpbt Hbt]
    · iapply (stJ_issue X c true 1)
      isplitl [Hpbt]; · iexact Hpbt
      iexact Hbt
    iexact HO
  rw [add_comm (Lo c 1 (0 + 1) 0) (Lo c 0 (0 + 1) 0)]
  iintro ⟨Hbf, Hbt, HO⟩
  iapply (wp_rounds X K c Q _ g 11 0 (by decide)) $$ [Haf Hat Hbf Hbt Hg HO]
  · unfold midAll
    isplitr; · iexact HC
    isplitl [Haf Hat]
    · isplitl [Haf]; · iexact Haf
      iexact Hat
    isplitl [Hbf Hbt]
    · isplitl [Hbf]; · iexact Hbf
      iexact Hbt
    isplitl [Hg]; · iexact Hg
    iexact HO
  iintro Hm
  iapply (wp_lastRound X K c Q _ g) $$ [Hm]
  · isplitr; · iexact HC
    iexact Hm
  iintro Hm
  iapply (wp_settle X K c Q g) $$ [Hm]
  · isplitr; · iexact HC
    iexact Hm
  unfold stDone
  iintro ⟨⟨Haf, Hat⟩, ⟨Hbf, Hbt⟩, Hg, HO⟩
  rw [wp_stop]
  imod (stZ_close X K c false 0) $$ [Haf] with Haf
  · isplitr; · iexact HC
    iexact Haf
  imod (stZ_close X K c true 0) $$ [Hat] with Hat
  · isplitr; · iexact HC
    iexact Hat
  imod (stZ_close X K c false 1) $$ [Hbf] with Hbf
  · isplitr; · iexact HC
    iexact Hbf
  imod (stZ_close X K c true 1) $$ [Hbt] with Hbt
  · isplitr; · iexact HC
    iexact Hbt
  ihave #HIb := (ctx_inv X K c kBar) $$ HC
  imod (Rounds.cell_close ER (sched X) (Set.mem_univ (K (cell c kBar))) id (duties_later X c kBar)) $$ [Hab] with Hb
  · isplitr; · iexact HIb
    iexact Hab
  imodintro
  iapply Hk
  isplitl [Haf Hat Hbf Hbt]
  · isplitl [Haf Hat]
    · isplitl [Haf]; · iexact Haf
      iexact Hat
    isplitl [Hbf]; · iexact Hbf
    iexact Hbt
  isplitl [Hb]; · iexact Hb
  isplitl [Hg]; · iexact Hg
  iexact HO

end

end Cert.Kernel.Ring

end
-- ==== Proof.K.Mem.lean ====
module

public import proofs.«01_k».proof.Proof.K.Body

@[expose] public section

noncomputable section

namespace Cert.Kernel.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

/-! ## Equal propositions -/

/-- Propositions that entail each other are equal. -/
theorem bieq {P Q : PR F} (h : P ⊣⊢ Q) : P = Q := equiv_iff.mp ⟨h.1, h.2⟩

theorem filt {I : Type} (s : Finset I) (p : I → Prop) [DecidablePred p] (Φ : I → PR F) :
    bigSep (s.filter p) Φ = bigSep s fun i => if p i then Φ i else iprop(emp) := bigSep_filter s p Φ

/-! ## Elements of a buffer, whatever they hold -/

/-- Some elements of a buffer, whole, whatever they are. -/
abbrev any (ℓ : Loc nD τ sig) (I : Finset (Idx ℓ)) : PR F := iprop(∃ f : Buf (Elt F) ℓ, ℓ ↦[I]{fullShare} f)

theorem any_union {ℓ : Loc nD τ sig} {I J : Finset (Idx ℓ)} (h : Disjoint I J) : (any ℓ (I ∪ J) : PR F) ⊣⊢ iprop(any ℓ I ∗ any ℓ J) := by
  constructor
  · iintro ⟨%f, H⟩
    ihave H := (pointsTo_union h).1 $$ H
    icases H with ⟨H1, H2⟩
    isplitl [H1]
    · iexists f; iexact H1
    iexists f; iexact H2
  · iintro ⟨⟨%f, H1⟩, ⟨%g, H2⟩⟩
    iexists J.piecewise g f
    iapply (pointsTo_join h)
    isplitl [H1]; · iexact H1
    iexact H2

/-- A memory reference's elements, whatever they are, are elements of its buffer, whatever they are. -/
theorem some_any {cs : Space} {s : Shape} {e : EltTy} (c : Dev nD) (M : Memref sig .tc cs s e) :
    (some' c M : PR F) ⊣⊢ any (M.view.loc (c : Thread nD τ)) M.view.set := by
  constructor
  · iintro ⟨%V, H⟩
    iexists M.view.rep V
    iexact H
  · iintro ⟨%f, H⟩
    iexists M.view.read (Elt F) f
    rw [← held_of]
    iexact H

/-! ## The ring buffers and the staging buffers by chain -/

theorem slot_set0 (l s : Fin 2) : (slot false l s).view.set = (slotR l s).set :=
  (View.set_reshape _ _).trans (View.set_slice_whole cc0_scratch0 (slotR l s))
theorem slot_set1 (l s : Fin 2) : (slot true l s).view.set = (slotR l s).set :=
  (View.set_reshape _ _).trans (View.set_slice_whole cc0_scratch1 (slotR l s))
theorem stg_set0 (l : Fin 2) : (stg false l).view.set = (stgR l).set :=
  (View.set_reshape _ _).trans (View.set_slice_whole cc0_scratch2 (stgR l))
theorem stg_set1 (l : Fin 2) : (stg true l).view.set = (stgR l).set :=
  (View.set_reshape _ _).trans (View.set_slice_whole cc0_scratch3 (stgR l))

theorem mem_slotR {l s : Fin 2} {i : S2x2x256x2048.Idx} : i ∈ (slotR l s).set ↔ (i 0).val = l.val ∧ (i 1).val = s.val := by
  rw [LoadRect.mem_set]
  constructor
  · intro h
    obtain ⟨j, hj, h0⟩ := h 0
    obtain ⟨j', hj', h1⟩ := h 1
    have hj : j < 1 := hj
    have hj' : j' < 1 := hj'
    have h0 : (i 0).val = l.val + 1 * j := h0
    have h1 : (i 1).val = s.val + 1 * j' := h1
    omega
  · rintro ⟨h0, h1⟩ a
    fin_cases a
    · exact ⟨0, Nat.one_pos, h0⟩
    · exact ⟨0, Nat.one_pos, h1⟩
    · exact ⟨(i 2).val, (i 2).isLt, (by show (i 2).val = 0 + 1 * (i 2).val; omega)⟩
    · exact ⟨(i 3).val, (i 3).isLt, (by show (i 3).val = 0 + 1 * (i 3).val; omega)⟩

theorem mem_stgR {l : Fin 2} {i : S2x256x2048.Idx} : i ∈ (stgR l).set ↔ (i 0).val = l.val := by
  rw [LoadRect.mem_set]
  constructor
  · intro h
    obtain ⟨j, hj, h0⟩ := h 0
    have hj : j < 1 := hj
    have h0 : (i 0).val = l.val + 1 * j := h0
    omega
  · intro h0 a
    fin_cases a
    · exact ⟨0, Nat.one_pos, h0⟩
    · exact ⟨(i 1).val, (i 1).isLt, (by show (i 1).val = 0 + 1 * (i 1).val; omega)⟩
    · exact ⟨(i 2).val, (i 2).isLt, (by show (i 2).val = 0 + 1 * (i 2).val; omega)⟩

theorem slotR_disjoint {l s l' s' : Fin 2} (h : l ≠ l' ∨ s ≠ s') : Disjoint (slotR l s).set (slotR l' s').set :=
  Finset.disjoint_left.mpr fun i hi hi' => by
    have h1 := mem_slotR.mp hi
    have h2 := mem_slotR.mp hi'
    rcases h with h | h
    · exact h (Fin.ext (h1.1.symm.trans h2.1))
    · exact h (Fin.ext (h1.2.symm.trans h2.2))

theorem stgR_disjoint : Disjoint (stgR 0).set (stgR 1).set :=
  Finset.disjoint_left.mpr fun i hi hi' => by
    have h1 := mem_stgR.mp hi
    have h2 := mem_stgR.mp hi'
    rw [h1] at h2
    exact absurd h2 (by decide)

theorem slotR_cover : ((slotR 0 0).set ∪ (slotR 0 1).set) ∪ ((slotR 1 0).set ∪ (slotR 1 1).set) = (Finset.univ : Finset S2x2x256x2048.Idx) :=
  Finset.eq_univ_iff_forall.mpr fun i => by
    have h0 : (i 0).val < 2 := (i 0).isLt
    have h1 : (i 1).val < 2 := (i 1).isLt
    simp only [Finset.mem_union, mem_slotR, Fin.val_zero, Fin.val_one]
    omega

theorem stgR_cover : (stgR 0).set ∪ (stgR 1).set = (Finset.univ : Finset S2x256x2048.Idx) :=
  Finset.eq_univ_iff_forall.mpr fun i => by
    have h0 : (i 0).val < 2 := (i 0).isLt
    simp only [Finset.mem_union, mem_stgR, Fin.val_zero, Fin.val_one]
    omega

/-- Four disjoint parts of a buffer, whatever they hold. -/
theorem any_four {ℓ : Loc nD τ sig} {A B C D : Finset (Idx ℓ)} (hAB : Disjoint A B) (hCD : Disjoint C D) (h : Disjoint (A ∪ B) (C ∪ D))
    (hc : (A ∪ B) ∪ (C ∪ D) = Finset.univ) : (any ℓ Finset.univ : PR F) = iprop((any ℓ A ∗ any ℓ B) ∗ (any ℓ C ∗ any ℓ D)) := by
  rw [← hc, bieq (any_union h), bieq (any_union hAB), bieq (any_union hCD)]

theorem slotR_disjoint2 : Disjoint ((slotR 0 0).set ∪ (slotR 0 1).set) ((slotR 1 0).set ∪ (slotR 1 1).set) :=
  Finset.disjoint_union_left.mpr
    ⟨Finset.disjoint_union_right.mpr ⟨slotR_disjoint (.inl (by decide)), slotR_disjoint (.inl (by decide))⟩,
     Finset.disjoint_union_right.mpr ⟨slotR_disjoint (.inl (by decide)), slotR_disjoint (.inl (by decide))⟩⟩

theorem slots0 (c : Dev nD) : (any ((c : Thread nD τ).loc cc0_scratch0) Finset.univ : PR F)
    = iprop((some' c (slot false 0 0) ∗ some' c (slot false 0 1)) ∗ (some' c (slot false 1 0) ∗ some' c (slot false 1 1))) := by
  rw [bieq (some_any c (slot false 0 0)), bieq (some_any c (slot false 0 1)), bieq (some_any c (slot false 1 0)), bieq (some_any c (slot false 1 1)),
    slot_set0, slot_set0, slot_set0, slot_set0]
  exact any_four (ℓ := (c : Thread nD τ).loc cc0_scratch0) (slotR_disjoint (.inr (by decide))) (slotR_disjoint (.inr (by decide))) slotR_disjoint2 slotR_cover

theorem slots1 (c : Dev nD) : (any ((c : Thread nD τ).loc cc0_scratch1) Finset.univ : PR F)
    = iprop((some' c (slot true 0 0) ∗ some' c (slot true 0 1)) ∗ (some' c (slot true 1 0) ∗ some' c (slot true 1 1))) := by
  rw [bieq (some_any c (slot true 0 0)), bieq (some_any c (slot true 0 1)), bieq (some_any c (slot true 1 0)), bieq (some_any c (slot true 1 1)),
    slot_set1, slot_set1, slot_set1, slot_set1]
  exact any_four (ℓ := (c : Thread nD τ).loc cc0_scratch1) (slotR_disjoint (.inr (by decide))) (slotR_disjoint (.inr (by decide))) slotR_disjoint2 slotR_cover

theorem stgs0 (c : Dev nD) : (any ((c : Thread nD τ).loc cc0_scratch2) Finset.univ : PR F) = iprop(some' c (stg false 0) ∗ some' c (stg false 1)) := by
  rw [bieq (some_any c (stg false 0)), bieq (some_any c (stg false 1)), stg_set0, stg_set0]
  exact (congrArg (any ((c : Thread nD τ).loc cc0_scratch2)) stgR_cover.symm).trans (bieq (any_union stgR_disjoint))

theorem stgs1 (c : Dev nD) : (any ((c : Thread nD τ).loc cc0_scratch3) Finset.univ : PR F) = iprop(some' c (stg true 0) ∗ some' c (stg true 1)) := by
  rw [bieq (some_any c (stg true 0)), bieq (some_any c (stg true 1)), stg_set1, stg_set1]
  exact (congrArg (any ((c : Thread nD τ).loc cc0_scratch3)) stgR_cover.symm).trans (bieq (any_union stgR_disjoint))

theorem four_sep (Φ Ψ : Bool → Fin 2 → PR F) : four (fun d l => iprop(Φ d l ∗ Ψ d l)) = iprop(four Φ ∗ four Ψ) := by
  unfold four
  refine bieq ⟨?_, ?_⟩
  · show iprop((iprop(Φ false 0 ∗ Ψ false 0) ∗ iprop(Φ true 0 ∗ Ψ true 0)) ∗ (iprop(Φ false 1 ∗ Ψ false 1) ∗ iprop(Φ true 1 ∗ Ψ true 1))) ⊢ _
    iintro ⟨⟨⟨A, A'⟩, ⟨B, B'⟩⟩, ⟨⟨C, C'⟩, ⟨D, D'⟩⟩⟩
    isplitl [A B C D]
    · isplitl [A B]
      · isplitl [A]; · iexact A
        iexact B
      isplitl [C]; · iexact C
      iexact D
    isplitl [A' B']
    · isplitl [A']; · iexact A'
      iexact B'
    isplitl [C']; · iexact C'
    iexact D'
  · show _ ⊢ iprop((iprop(Φ false 0 ∗ Ψ false 0) ∗ iprop(Φ true 0 ∗ Ψ true 0)) ∗ (iprop(Φ false 1 ∗ Ψ false 1) ∗ iprop(Φ true 1 ∗ Ψ true 1)))
    iintro ⟨⟨⟨A, B⟩, ⟨C, D⟩⟩, ⟨⟨A', B'⟩, ⟨C', D'⟩⟩⟩
    isplitl [A B A' B']
    · isplitl [A A']
      · isplitl [A]; · iexact A
        iexact A'
      isplitl [B]; · iexact B
      iexact B'
    isplitl [C C']
    · isplitl [C]; · iexact C
      iexact C'
    isplitl [D]; · iexact D
    iexact D'

theorem four_mono {Φ Ψ : Bool → Fin 2 → PR F} (h : ∀ d l, Φ d l ⊢ Ψ d l) : four Φ ⊢ four Ψ := by
  unfold four
  exact BIClass.sep_mono (BIClass.sep_mono (h _ _) (h _ _)) (BIClass.sep_mono (h _ _) (h _ _))

theorem four_univ (Φ : Bool → Fin 2 → PR F) : four Φ = bigSep Finset.univ fun p : Bool × Fin 2 => Φ p.1 p.2 := by
  rw [bigSep_univ_eq_bigSepL [(false, 0), (true, 0), (false, 1), (true, 1)] (by decide) (by decide)]
  unfold four
  refine bieq ⟨?_, ?_⟩
  · show _ ⊢ iprop(Φ false 0 ∗ Φ true 0 ∗ Φ false 1 ∗ Φ true 1)
    iintro ⟨⟨A, B⟩, ⟨C, D⟩⟩
    isplitl [A]; · iexact A
    isplitl [B]; · iexact B
    isplitl [C]; · iexact C
    iexact D
  · show iprop(Φ false 0 ∗ Φ true 0 ∗ Φ false 1 ∗ Φ true 1) ⊢ _
    iintro ⟨A, B, C, D⟩
    isplitl [A B]
    · isplitl [A]; · iexact A
      iexact B
    isplitl [C]; · iexact C
    iexact D

/-- The scratch buffers, whole, whatever they hold, are the chains' scratch. -/
theorem scratch_four (c : Dev nD) :
    iprop(any ((c : Thread nD τ).loc cc0_scratch0) Finset.univ ∗ any ((c : Thread nD τ).loc cc0_scratch1) Finset.univ
        ∗ any ((c : Thread nD τ).loc cc0_scratch2) Finset.univ ∗ any ((c : Thread nD τ).loc cc0_scratch3) Finset.univ) ⊣⊢ (four (scratch c) : PR F) := by
  rw [slots0, slots1, stgs0, stgs1]
  unfold four scratch
  constructor
  · iintro ⟨⟨⟨A, B⟩, ⟨C, D⟩⟩, ⟨⟨A', B'⟩, ⟨C', D'⟩⟩, ⟨S, T⟩, ⟨S', T'⟩⟩
    isplitl [A B A' B' S S']
    · isplitl [A B S]
      · isplitl [A]; · iexact A
        isplitl [B]; · iexact B
        iexact S
      isplitl [A']; · iexact A'
      isplitl [B']; · iexact B'
      iexact S'
    isplitl [C D T]
    · isplitl [C]; · iexact C
      isplitl [D]; · iexact D
      iexact T
    isplitl [C']; · iexact C'
    isplitl [D']; · iexact D'
    iexact T'
  · iintro ⟨⟨⟨A, B, S⟩, ⟨A', B', S'⟩⟩, ⟨⟨C, D, T⟩, ⟨C', D', T'⟩⟩⟩
    isplitl [A B C D]
    · isplitl [A B]
      · isplitl [A]; · iexact A
        iexact B
      isplitl [C]; · iexact C
      iexact D
    isplitl [A' B' C' D']
    · isplitl [A' B']
      · isplitl [A']; · iexact A'
        iexact B'
      isplitl [C']; · iexact C'
      iexact D'
    isplitl [S T]
    · isplitl [S]; · iexact S
      iexact T
    isplitl [S']; · iexact S'
    iexact T'

/-! ## The inputs by chain -/

/-- An array whole is the four chains' shares of it. -/
theorem share_four {ℓ : Loc nD τ sig} (f : Buf (Elt F) ℓ) : (ℓ ↦{fullShare} f : PR F) ⊣⊢ four fun d l => ℓ ↦{qd d l} f := by
  have h := pointsTo_share (Ix := ℕ) (Name := ℕ) (U := UU) (Lvl := ℕ) (ℓ := ℓ) (I := Finset.univ) (f := f) (PosShare.mem_left_op_right fullShare)
  have hl := pointsTo_share (Ix := ℕ) (Name := ℕ) (U := UU) (Lvl := ℕ) (ℓ := ℓ) (I := Finset.univ) (f := f) (PosShare.mem_left_op_right fullShare.left)
  have hr := pointsTo_share (Ix := ℕ) (Name := ℕ) (U := UU) (Lvl := ℕ) (ℓ := ℓ) (I := Finset.univ) (f := f) (PosShare.mem_left_op_right fullShare.right)
  rw [bieq h, bieq hl, bieq hr]
  unfold four qd
  show iprop(((ℓ ↦{fullShare.left.left} f) ∗ (ℓ ↦{fullShare.left.right} f)) ∗ ((ℓ ↦{fullShare.right.left} f) ∗ (ℓ ↦{fullShare.right.right} f)))
    ⊣⊢ (iprop(((ℓ ↦{fullShare.left.left} f) ∗ (ℓ ↦{fullShare.right.left} f)) ∗ ((ℓ ↦{fullShare.left.right} f) ∗ (ℓ ↦{fullShare.right.right} f))) : PR F)
  constructor
  · iintro ⟨⟨A, B⟩, ⟨C, D⟩⟩
    isplitl [A C]
    · isplitl [A]; · iexact A
      iexact C
    isplitl [B]; · iexact B
    iexact D
  · iintro ⟨⟨A, C⟩, ⟨B, D⟩⟩
    isplitl [A B]
    · isplitl [A]; · iexact A
      iexact B
    isplitl [C]; · iexact C
    iexact D

variable (X : Data F)

theorem all1_four (c : Dev nD) : ((c : Thread nD τ).loc main_v1 ↦{fullShare} X.x c : PR F) ⊣⊢ four (all1 X c) :=
  share_four (ℓ := (c : Thread nD τ).loc main_v1) (X.x c)
theorem allR_four (c : Dev nD) : ((c : Thread nD τ).loc main_arg1 ↦{fullShare} X.r c : PR F) ⊣⊢ four (allR X c) :=
  share_four (ℓ := (c : Thread nD τ).loc main_arg1) (X.r c)

/-! ## The result's rows by chain -/

/-- The rounds in which a chain stores. -/
def stores : Finset ℕ := (Finset.range 12).filter fun G => 2 ≤ tOf G

/-- The elements a chain stores in a round. -/
def outS' (c : Dev nD) (p : Bool × Fin 2) (G : ℕ) : Finset S8192x2048.Idx := (rows (Memref.whole main_v3) (outB c p.1 p.2 G)).view.set

/-- The number of a row block of 256 rows. -/
def blkN (c : Dev nD) (p : Bool × Fin 2) (G : ℕ) : ℕ :=
  8 * (back p.1 (tOf G + 1) c).val + 4 * dirN p.1 + (sub p.2 (vOf G)).val

theorem mem_outS {c : Dev nD} {p : Bool × Fin 2} {G : ℕ} {i : S8192x2048.Idx} : i ∈ outS' c p G ↔ (i 0).val / 256 = blkN c p G := by
  have hs : outS' c p G = (Rect.unit (s := S8192x2048) (outB c p.1 p.2 G).o S256x2048.size (outB c p.1 p.2 G).inb).set :=
    View.set_slice_whole main_v3 _
  have ho : (outB c p.1 p.2 G).o 0 = 256 * blkN c p G := by
    show 2048 * (back p.1 (tOf G + 1) c).val + 1024 * dirN p.1 + 256 * (sub p.2 (vOf G)).val = _
    unfold blkN; omega
  rw [hs, LoadRect.mem_set]
  constructor
  · intro h
    obtain ⟨j, hj, h0⟩ := h 0
    have hj : j < 256 := hj
    have h0 : (i 0).val = (outB c p.1 p.2 G).o 0 + 1 * j := h0
    omega
  · intro h a
    fin_cases a
    · refine ⟨(i 0).val % 256, Nat.mod_lt _ (by decide), ?_⟩
      show (i 0).val = (outB c p.1 p.2 G).o 0 + 1 * ((i 0).val % 256)
      omega
    · refine ⟨(i 1).val, (i 1).isLt, ?_⟩
      show (i 1).val = 0 + 1 * (i 1).val
      omega

theorem blkN_inj : ∀ (c : Dev nD) (p p' : Bool × Fin 2), ∀ G ∈ stores, ∀ G' ∈ stores, blkN c p G = blkN c p' G' → p = p' ∧ G = G' := by
  unfold stores; decide +kernel

theorem blkN_surj : ∀ (c : Dev nD) (b : Fin 32), ∃ p : Bool × Fin 2, ∃ G ∈ stores, blkN c p G = b.val := by
  unfold stores; decide +kernel

theorem out_disjoint (c : Dev nD) {p p' : Bool × Fin 2} {G G' : ℕ} (hG : G ∈ stores) (hG' : G' ∈ stores) (h : ¬(p = p' ∧ G = G')) :
    Disjoint (outS' c p G) (outS' c p' G') :=
  Finset.disjoint_left.mpr fun i hi hi' => h (blkN_inj c p p' G hG G' hG' ((mem_outS.mp hi).symm.trans (mem_outS.mp hi')))

theorem out_cover (c : Dev nD) : (Finset.univ.biUnion fun p => stores.biUnion (outS' c p)) = (Finset.univ : Finset S8192x2048.Idx) :=
  Finset.eq_univ_iff_forall.mpr fun i => by
    have h0 : (i 0).val < 8192 := (i 0).isLt
    obtain ⟨p, G, hG, h⟩ := blkN_surj c ⟨(i 0).val / 256, by omega⟩
    exact Finset.mem_biUnion.mpr ⟨p, Finset.mem_univ _, Finset.mem_biUnion.mpr ⟨G, hG, mem_outS.mpr h.symm⟩⟩

/-- The result whole is the rows the chains store. -/
theorem out_four (c : Dev nD) (f : Buf (Elt F) ((c : Thread nD τ).loc main_v3)) :
    ((c : Thread nD τ).loc main_v3 ↦{fullShare} f : PR F)
      = four fun d l => bigSep stores fun G => (c : Thread nD τ).loc main_v3 ↦[outS' c (d, l) G]{fullShare} f := by
  rw [four_univ]
  refine (congrArg (fun I => ((c : Thread nD τ).loc main_v3 ↦[I]{fullShare} f : PR F)) (out_cover c).symm).trans ?_
  refine (pointsTo_biUnion (ℓ := (c : Thread nD τ).loc main_v3) Finset.univ (fun p => stores.biUnion (outS' c p)) ?_).trans ?_
  rotate_left
  · refine bigSep_congr fun p _ => ?_
    refine pointsTo_biUnion (ℓ := (c : Thread nD τ).loc main_v3) stores (outS' c p) ?_
    intro G hG G' hG' h
    exact out_disjoint c hG hG' fun h' => h h'.2
  · intro p _ p' _ h
    refine (Finset.disjoint_biUnion_left _ _ _).mpr fun G hG => (Finset.disjoint_biUnion_right _ _ _).mpr fun G' hG' => ?_
    exact out_disjoint c hG hG' fun h' => h h'.1

theorem fresh_four (c : Dev nD) (f : Buf (Elt F) ((c : Thread nD τ).loc main_v3)) :
    ((c : Thread nD τ).loc main_v3 ↦{fullShare} f : PR F) ⊢ four fun d l => fresh c d l 0 := by
  rw [out_four]
  refine four_mono fun d l => ?_
  unfold fresh stores
  rw [← Finset.range_eq_Ico, ← filt]
  refine bigSep_mono fun G _ => ?_
  refine BIBase.Entails.trans ?_ (some_any c _).2
  iintro H
  iexists f
  iexact H

/-- What the result holds in the end. -/
def fin' : FVec F S8192x2048 .f32 := fun i =>
  have h0 : (i 0).val < 8192 := (i 0).isLt
  val X (decide ((i 0).val / 1024 % 2 = 1)) ⟨(i 0).val / 256 % 4, by omega⟩ 3
    (frm (decide ((i 0).val / 1024 % 2 = 1)) ⟨(i 0).val / 2048, by show _ < 4; omega⟩)
    fun a => if h : a = 0 then ⟨(i 0).val % 256, by subst h; exact Nat.mod_lt _ (by decide)⟩ else ⟨(i a).val, lt_of_lt_of_le (i a).isLt (by revert a; decide)⟩

theorem val_late (d : Bool) (j : Fin 4) (t : ℕ) (ht : 2 ≤ t) (c : Dev nD) : val X d j (t + 1) c = val X d j 3 (frm d (back d (t + 1) c)) := by
  induction t generalizing c with
  | zero => omega
  | succ t ih =>
    rcases Nat.lt_or_ge t 2 with h | h
    · have : t = 1 := by omega
      subst this
      have : frm d (back d (1 + 1 + 1) c) = c := frm4 d c
      rw [this]
    · have e : val X d j (t + 1 + 1) c = val X d j (t + 1) (frm d c) := by
        show (if t + 1 < 2 then _ else if t + 1 = 2 then _ else _) = _
        rw [if_neg (by omega), if_neg (by omega)]
      rw [e, ih h]
      rfl

theorem fin_at (i : S8192x2048.Idx) (d : Bool) (j : Fin 4) (I : Dev nD) (x : S256x2048.Idx)
    (h0 : (i 0).val = 2048 * I.val + 1024 * dirN d + 256 * j.val + (x 0).val) (h1 : (i 1).val = (x 1).val) :
    fin' X i = val X d j 3 (frm d I) x := by
  have hx : (x 0).val < 256 := (x 0).isLt
  have hI : I.val < 4 := I.isLt
  have hj : j.val < 4 := j.isLt
  have hd : dirN d < 2 := by cases d <;> decide
  have e1 : decide ((i 0).val / 1024 % 2 = 1) = d := by
    have : (i 0).val / 1024 % 2 = dirN d := by omega
    rw [this]; cases d <;> rfl
  have e2 : ∀ h, (⟨(i 0).val / 256 % 4, h⟩ : Fin 4) = j := fun h => Fin.ext (by show (i 0).val / 256 % 4 = _; omega)
  have e3 : ∀ h, (⟨(i 0).val / 2048, h⟩ : Dev nD) = I := fun h => Fin.ext (by show (i 0).val / 2048 = _; omega)
  unfold fin'
  dsimp only
  rw [e1, e2, e3]
  refine congrArg (val X d j 3 (frm d I)) (funext fun a => ?_)
  by_cases h : a = 0
  · subst h
    rw [dif_pos rfl]
    exact Fin.ext (by show (i 0).val % 256 = _; omega)
  · rw [dif_neg h]
    have : a = 1 := by revert h; revert a; decide
    subst this
    exact Fin.ext h1

theorem fin_read (c : Dev nD) (d : Bool) (l : Fin 2) (G : ℕ) (h : 2 ≤ tOf G) :
    (rows (Memref.whole main_v3) (outB c d l G)).view.read (Elt F) (fin' X) = aft X c d l G := by
  unfold aft
  rw [val_late X d _ _ h]
  funext x
  refine fin_at X _ d (sub l (vOf G)) (back d (tOf G + 1) c) x ?_ ?_
  · show (2048 * (back d (tOf G + 1) c).val + 1024 * dirN d + 256 * (sub l (vOf G)).val) + 1 * (x 0).val = _
    omega
  · show 0 + 1 * (x 1).val = _
    omega

theorem done_four (c : Dev nD) : (four fun d l => done X c d l 12) ⊢ ((c : Thread nD τ).loc main_v3 ↦{fullShare} fin' X : PR F) := by
  rw [out_four]
  refine four_mono fun d l => ?_
  unfold done stores
  rw [← filt]
  refine bigSep_mono fun G hG => ?_
  rw [← fin_read X c d l G (Finset.mem_filter.mp hG).2, ← held_of]
  show (((c : Thread nD τ).loc main_v3 ↦[outS' c (d, l) G]{fullShare} fin' X : PR F)) ⊢ _
  exact BIBase.Entails.rfl

/-! ## All of it -/

/-- A device's scratch buffers, whole, whatever they hold. -/
abbrev scr (c : Dev nD) : PR F :=
  iprop(any ((c : Thread nD τ).loc cc0_scratch0) Finset.univ ∗ any ((c : Thread nD τ).loc cc0_scratch1) Finset.univ
    ∗ any ((c : Thread nD τ).loc cc0_scratch2) Finset.univ ∗ any ((c : Thread nD τ).loc cc0_scratch3) Finset.univ)

/-- The chains' memory at the start. -/
theorem mem_split (c : Dev nD) (f : Buf (Elt F) ((c : Thread nD τ).loc main_v3)) :
    iprop(scr c ∗ ((c : Thread nD τ).loc main_arg1 ↦{fullShare} X.r c) ∗ ((c : Thread nD τ).loc main_v1 ↦{fullShare} X.x c) ∗ ((c : Thread nD τ).loc main_v3 ↦{fullShare} f))
      ⊢ four fun d l => iprop(scratch c d l ∗ (all1 X c d l ∗ allR X c d l ∗ fresh c d l 0)) := by
  rw [four_sep, four_sep, four_sep]
  iintro ⟨Hs, Hr, Hx, Hf⟩
  isplitl [Hs]
  · iapply (scratch_four c).1; iexact Hs
  isplitl [Hx]
  · iapply (all1_four X c).1; iexact Hx
  isplitl [Hr]
  · iapply (allR_four X c).1; iexact Hr
  iapply (fresh_four c f); iexact Hf

/-- The chains' memory in the end. -/
theorem mem_join (c : Dev nD) :
    (four fun d l => iprop(scratch c d l ∗ (all1 X c d l ∗ allR X c d l ∗ done X c d l 12)))
      ⊢ iprop(scr c ∗ ((c : Thread nD τ).loc main_arg1 ↦{fullShare} X.r c) ∗ ((c : Thread nD τ).loc main_v1 ↦{fullShare} X.x c) ∗ ((c : Thread nD τ).loc main_v3 ↦{fullShare} fin' X)) := by
  rw [four_sep, four_sep, four_sep]
  iintro ⟨Hs, Hx, Hr, Hf⟩
  isplitl [Hs]
  · iapply (scratch_four c).2; iexact Hs
  isplitl [Hr]
  · iapply (allR_four X c).2; iexact Hr
  isplitl [Hx]
  · iapply (all1_four X c).2; iexact Hx
  iapply (done_four X c); iexact Hf

end Cert.Kernel.Ring

end
-- ==== Proof.K.Sems.lean ====
module

public import proofs.«01_k».proof.Proof.K.Mem
public import proofs.«01_k».proof.Proof.Gen.Kernel.Launch

@[expose] public section

noncomputable section

namespace Cert.Kernel.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]
variable (X : Data F) (K : GSem nD τ sig → ℕ)

/-! ## The kernel's own counters -/

/-- A chain's cells. -/
@[reducible] def cs (p : Bool × Fin 2) : Fin 5 → Cell
  | 0 => kSend p.1 p.2 0
  | 1 => kSend p.1 p.2 1
  | 2 => kRecv p.1 p.2 0
  | 3 => kRecv p.1 p.2 1
  | 4 => kCrd p.1 p.2

/-- The kernel's own semaphores, chain by chain. -/
@[reducible] def osem : (Bool × Fin 2) × (Fin 5 ⊕ Bool) → SemLoc sig
  | (p, .inl k) => sem (cs p k)
  | (p, .inr false) => .dma (locS p.1 p.2)
  | (p, .inr true) => .dma (outS p.1 p.2)

theorem ownFacts : Pipeline.OwnSemFacts spec0 osem := by decide +kernel

theorem fin5 (Φ : Fin 5 → PR F) : bigSep Finset.univ Φ = iprop((Φ 0 ∗ Φ 1) ∗ (Φ 2 ∗ Φ 3) ∗ Φ 4) := by
  rw [bigSep_univ_eq_bigSepL [0, 1, 2, 3, 4] (by decide) (by decide)]
  refine bieq ⟨?_, ?_⟩
  · show iprop(Φ 0 ∗ Φ 1 ∗ Φ 2 ∗ Φ 3 ∗ Φ 4) ⊢ _
    iintro ⟨A, B, C, D, E⟩
    isplitl [A B]
    · isplitl [A]; · iexact A
      iexact B
    isplitl [C D]
    · isplitl [C]; · iexact C
      iexact D
    iexact E
  · show _ ⊢ iprop(Φ 0 ∗ Φ 1 ∗ Φ 2 ∗ Φ 3 ∗ Φ 4)
    iintro ⟨⟨A, B⟩, ⟨C, D⟩, E⟩
    isplitl [A]; · iexact A
    isplitl [B]; · iexact B
    isplitl [C]; · iexact C
    isplitl [D]; · iexact D
    iexact E

theorem bool2 (Φ : Bool → PR F) : bigSep Finset.univ Φ = iprop(Φ false ∗ Φ true) := by
  rw [bigSep_univ_eq_bigSepL [false, true] (by decide) (by decide)]
  rfl

theorem own_four (c : Dev nD) : (Pipeline.ownSems0 osem c : PR F) = four fun d l => iprop(counters c d l ∗ locals c d l) := by
  unfold Pipeline.ownSems0
  rw [bigSep_univ_prod, four_univ]
  refine bigSep_congr fun p _ => ?_
  rw [bigSep_univ_sum, fin5, bool2]
  rfl

/-- The rights to open a chain's cells. -/
def opens (c : Dev nD) (d : Bool) (l : Fin 2) : PR F := bigSep Finset.univ fun k : Fin 5 => openTok ER (cell c (cs (d, l) k))

/-- A cell opened with its counter at zero. -/
theorem open_cell (c : Dev nD) (k : Cell) : iprop(Ctx X K ∗ openTok ER (cell c k) ∗ semVal (cell c k) 0) ⊢ (|={Set.univ}=> at' c k 0 : PR F) := by
  unfold at'
  iintro ⟨#HC, Ho, Hv⟩
  ihave #HI := (ctx_inv X K c k) $$ HC
  iapply (Rounds.cell_open ER (sched X) (g := cell c k) (Set.mem_univ (K (cell c k)))) $$ [Ho Hv]
  isplitr; · iexact HI
  isplitl [Ho]; · iexact Ho
  iexact Hv

/-- A chain's cells opened. -/
theorem open_chain (c : Dev nD) (d : Bool) (l : Fin 2) : iprop(Ctx X K ∗ opens c d l ∗ counters c d l) ⊢ (|={Set.univ}=> posAt c d l 0 0 : PR F) := by
  unfold opens counters posAt
  rw [fin5]
  iintro ⟨#HC, ⟨⟨A, B⟩, ⟨C, D⟩, E⟩, ⟨⟨A', B'⟩, ⟨C', D'⟩, E'⟩⟩
  imod (open_cell X K c (kSend d l 0)) $$ [A A'] with A
  · isplitr; · iexact HC
    isplitl [A]; · iexact A
    iexact A'
  imod (open_cell X K c (kSend d l 1)) $$ [B B'] with B
  · isplitr; · iexact HC
    isplitl [B]; · iexact B
    iexact B'
  imod (open_cell X K c (kRecv d l 0)) $$ [C C'] with C
  · isplitr; · iexact HC
    isplitl [C]; · iexact C
    iexact C'
  imod (open_cell X K c (kRecv d l 1)) $$ [D D'] with D
  · isplitr; · iexact HC
    isplitl [D]; · iexact D
    iexact D'
  imod (open_cell X K c (kCrd d l)) $$ [E E'] with E
  · isplitr; · iexact HC
    isplitl [E]; · iexact E
    iexact E'
  imodintro
  isplitl [A B]
  · isplitl [A]; · iexact A
    iexact B
  isplitl [C D]
  · isplitl [C]; · iexact C
    iexact D
  iexact E

/-- The four chains' cells opened. -/
theorem open_four (c : Dev nD) : iprop(Ctx X K ∗ four (opens c) ∗ four (counters c)) ⊢ (|={Set.univ}=> four fun d l => posAt c d l 0 0 : PR F) := by
  unfold four
  iintro ⟨#HC, ⟨⟨A, B⟩, ⟨C, D⟩⟩, ⟨⟨A', B'⟩, ⟨C', D'⟩⟩⟩
  imod (open_chain X K c false 0) $$ [A A'] with A
  · isplitr; · iexact HC
    isplitl [A]; · iexact A
    iexact A'
  imod (open_chain X K c true 0) $$ [B B'] with B
  · isplitr; · iexact HC
    isplitl [B]; · iexact B
    iexact B'
  imod (open_chain X K c false 1) $$ [C C'] with C
  · isplitr; · iexact HC
    isplitl [C]; · iexact C
    iexact C'
  imod (open_chain X K c true 1) $$ [D D'] with D
  · isplitr; · iexact HC
    isplitl [D]; · iexact D
    iexact D'
  imodintro
  isplitl [A B]
  · isplitl [A]; · iexact A
    iexact B
  isplitl [C]; · iexact C
  iexact D

/-! ## The duties at launch -/

/-- A duty of a cell: its cell, its round and which one it is. -/
@[reducible] def duty : ((Bool × Fin 2) × (Fin 12 ⊕ Fin 12 ⊕ Fin 11)) ⊕ Bool → Cell × ℕ × Bool
  | .inl (p, .inl G) => (kSend p.1 p.2 (sOf G.val), G.val / 2, false)
  | .inl (p, .inr (.inl G)) => (kRecv p.1 p.2 (rOf G.val), G.val / 2, false)
  | .inl (p, .inr (.inr G)) => (kCrd p.1 p.2, G.val, false)
  | .inr b => (kBar, 0, b)

instance : DecidableEq Cell := fun a b => decidable_of_iff (sem a = sem b) sem_inj.eq_iff

theorem duty_inj : Function.Injective duty := by decide +kernel

/-- All duties of all cells. -/
def dutyEmb : Dev nD × (((Bool × Fin 2) × (Fin 12 ⊕ Fin 12 ⊕ Fin 11)) ⊕ Bool) ↪ GSem nD τ sig × ℕ × Bool :=
  ⟨fun p => (cell p.1 (duty p.2).1, (duty p.2).2.1, (duty p.2).2.2), fun p q h => by
    have h1 := cell_inj (congrArg Prod.fst h)
    have h2 := congrArg (fun t => t.2.1) h
    have h3 := congrArg (fun t => t.2.2) h
    exact Prod.ext h1.1 (duty_inj (Prod.ext h1.2 (Prod.ext h2 h3)))⟩

def toks : Finset (GSem nD τ sig × ℕ × Bool) := Finset.univ.map dutyEmb

theorem ico_fin (n : ℕ) (Φ : ℕ → PR F) : bigSep (Finset.Ico 0 n) Φ = bigSep Finset.univ fun i : Fin n => Φ i.val := by
  have h : Finset.Ico 0 n = (Finset.univ : Finset (Fin n)).map Fin.valEmbedding := by
    ext i
    simp only [Finset.mem_Ico, Nat.zero_le, true_and, Finset.mem_map, Finset.mem_univ, Fin.valEmbedding_apply]
    exact ⟨fun h => ⟨⟨i, h⟩, rfl⟩, fun ⟨j, hj⟩ => hj ▸ j.isLt⟩
  rw [h, bigSep_map]
  rfl

/-- The duties of a chain's departures, arrivals and grants, at the device itself. -/
def tS (d : Bool) (l : Fin 2) (c : Dev nD) : PR F := bigSep (Finset.Ico 0 12) fun G => dutyTok ER (cell c (kSend d l (sOf G))) (G / 2) false
def tR (d : Bool) (l : Fin 2) (c : Dev nD) : PR F := bigSep (Finset.Ico 0 12) fun G => dutyTok ER (cell c (kRecv d l (rOf G))) (G / 2) false
def tC (d : Bool) (l : Fin 2) (c : Dev nD) : PR F := bigSep (Finset.Ico 0 11) fun G => dutyTok ER (cell c (kCrd d l)) G false
def tB (b : Bool) (c : Dev nD) : PR F := dutyTok ER (cell c kBar) 0 b

theorem toks_eq : bigSep toks (fun x => (dutyTok ER x.1 x.2.1 x.2.2 : PR F))
    = bigSep Finset.univ fun c : Dev nD => iprop((four fun d l => iprop(tS d l c ∗ tR d l c ∗ tC d l c)) ∗ (tB false c ∗ tB true c)) := by
  unfold toks
  rw [bigSep_map, bigSep_univ_prod]
  refine bigSep_congr fun c _ => ?_
  rw [bigSep_univ_sum, bigSep_univ_prod, bool2, four_univ]
  refine congrArg₂ (fun a b : PR F => iprop(a ∗ b)) (bigSep_congr fun p _ => ?_) rfl
  rw [bigSep_univ_sum, bigSep_univ_sum]
  unfold tS tR tC
  rw [ico_fin, ico_fin, ico_fin]
  rfl

theorem dev_four (Φ : Bool → Fin 2 → Dev nD → PR F) :
    (bigSep Finset.univ fun c => four fun d l => Φ d l c) = four fun d l => bigSep Finset.univ fun c => Φ d l c := by
  unfold four
  rw [bigSep_sep', bigSep_sep', bigSep_sep']

/-- A family over the devices, each device's handed on along the ring. -/
theorem dev_turn (d : Bool) (Φ : Dev nD → PR F) : bigSep Finset.univ Φ = bigSep Finset.univ fun c => Φ (tgt d c) := bigSep_univ_equiv (turn d) Φ
theorem dev_back (d : Bool) (Φ : Dev nD → PR F) : bigSep Finset.univ Φ = bigSep Finset.univ fun c => Φ (frm d c) := bigSep_univ_equiv (turn d).symm Φ

/-- The duties handed to those who meet them. -/
theorem toks_around : bigSep toks (fun x => (dutyTok ER x.1 x.2.1 x.2.2 : PR F))
    = bigSep Finset.univ fun c : Dev nD => iprop((four fun d l => iprop(sTok c d l 0 ∗ gTok c d l 0)) ∗ (tB false (tgt true c) ∗ tB true (tgt false c))) := by
  rw [toks_eq, bigSep_sep', bigSep_sep', bigSep_sep', bigSep_sep', dev_four, dev_four, ← dev_turn true (tB false), ← dev_turn false (tB true)]
  refine congrArg₂ (fun a b : PR F => iprop(a ∗ b)) (congrArg four (funext fun d => funext fun l => ?_)) rfl
  rw [bigSep_sep', bigSep_sep', bigSep_sep', dev_turn d (tR d l), dev_back d (tC d l)]
  unfold sTok gTok tS tR tC
  rw [bigSep_congr (s := Finset.univ) fun c _ => bigSep_sep' (Finset.Ico 0 12) (fun G => (dutyTok ER (cell c (kSend d l (sOf G))) (G / 2) false : PR F))
      fun G => dutyTok ER (cell (tgt d c) (kRecv d l (rOf G))) (G / 2) false, bigSep_sep']
  refine bieq ⟨?_, ?_⟩
  · iintro ⟨A, B, C⟩
    isplitl [A B]
    · isplitl [A]; · iexact A
      iexact B
    iexact C
  · iintro ⟨⟨A, B⟩, C⟩
    isplitl [A]; · iexact A
    isplitl [B]; · iexact B
    iexact C

/-! ## The credits at launch -/

theorem cred_owR (c : Dev nD) (d : Bool) (l : Fin 2) : (Pipeline.launchCred (fun e => owR e d l 0) c : PR F) ⊢ rCred c d l 0 := by
  unfold owR rCred
  rw [Pipeline.launchCred_sum]
  exact bigSep_mono fun G _ => Pipeline.launchCred_tallyAt (sem (kRecv d l (rOf G))) (tgt d) (frm d) (tgt_frm d) (frm_tgt d) G N c

theorem cred_owC (c : Dev nD) (d : Bool) (l : Fin 2) : (Pipeline.launchCred (fun e => owC e d l 0) c : PR F) ⊢ gCred c d l 0 := by
  unfold owC gCred
  rw [Pipeline.launchCred_sum]
  exact bigSep_mono fun G _ => Pipeline.launchCred_tallyAt (sem (kCrd d l)) (frm d) (tgt d) (frm_tgt d) (tgt_frm d) G 1 c

theorem cred_Lo (c : Dev nD) (l : Fin 2) : (Pipeline.launchCred (fun e => Lo e l 0 0) c : PR F)
    ⊢ iprop((rCred c false l 0 ∗ gCred c false l 0) ∗ (rCred c true l 0 ∗ gCred c true l 0)) := by
  unfold Lo
  rw [Pipeline.launchCred_add, Pipeline.launchCred_add, Pipeline.launchCred_add]
  exact BIClass.sep_mono (BIClass.sep_mono (cred_owR c false l) (cred_owC c false l)) (BIClass.sep_mono (cred_owR c true l) (cred_owC c true l))

theorem cred_bar (c : Dev nD) (d : Bool) : (Pipeline.launchCred (fun e => tallyAt (cell (tgt d e) kBar) 0 1) c : PR F) ⊢ cred (tallyAt (cell c kBar) 0 1) :=
  Pipeline.launchCred_tallyAt (sem kBar) (tgt d) (frm d) (tgt_frm d) (frm_tgt d) 0 1 c

theorem creds (c : Dev nD) : (Pipeline.launchCred O₀ c : PR F) ⊢ iprop((four fun d l => iprop(rCred c d l 0 ∗ gCred c d l 0)) ∗ cred (tallyAt (cell c kBar) 0 2)) := by
  rw [show (O₀ : Dev nD → _) = fun e => ((Lo e 0 0 0 + Lo e 1 0 0) + tallyAt (cell (tgt false e) kBar) 0 1) + tallyAt (cell (tgt true e) kBar) 0 1 from rfl,
    Pipeline.launchCred_add, Pipeline.launchCred_add, Pipeline.launchCred_add, show (tallyAt (cell c kBar) 0 2 : CellTallies nD τ sig ℕ) = tallyAt (cell c kBar) 0 1 + tallyAt (cell c kBar) 0 1 from (tallyAt_add (cell c kBar) 0 1 1).symm]
  unfold four
  iintro ⟨⟨⟨H0, H1⟩, Ha⟩, Hb⟩
  isplitl [H0 H1]
  · isplitl [H0]
    · iapply (cred_Lo c 0); iexact H0
    iapply (cred_Lo c 1); iexact H1
  iapply (cred_add _ _).2
  isplitl [Ha]
  · iapply (cred_bar c false); iexact Ha
  iapply (cred_bar c true); iexact Hb

end Cert.Kernel.Ring

end
-- ==== Proof.K.Region.lean ====
module

public import proofs.«01_k».proof.Proof.K.Sems
public import proofs.«01_k».proof.Proof.Gen.Kernel.Frame

@[expose] public section

noncomputable section

namespace Cert.Kernel.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.Kernel Cert.Kernel.Gen

variable {F : FTy → Type} [FloatOps F]
variable (m : (ℓ : Loc nD τ sig) → Buf (Elt F) ℓ)

/-! ## The arrays a device holds -/

/-- A device's arrays as launched, and after the reshapes. -/
abbrev W₀ (c : Dev nD) : Valuation τ sig (Elt F) := fun b => m (c, b)
abbrev W₁ (c : Dev nD) : Valuation τ sig (Elt F) := StableHlo.after hostOps0 (W₀ m c)

/-- What the ring computes from. -/
def DX : Data F := ⟨fun c => W₁ m c main_v1, fun c => W₁ m c main_arg1, fun c => W₁ m c main_v2⟩

/-- A device's arrays at the end. -/
abbrev W₂ (c : Dev nD) : Valuation τ sig (Elt F) := Function.update (W₁ m c) (Proc.devRef .tc main_v3) (fin' (DX m))

/-- A device's arrays, and those that no window stages. -/
def bufs : Finset (DevRef τ sig) := (StableHlo.tcRefs τ sig).filter fun b => ¬ b.isScoped
def others : Finset (DevRef τ sig) := bufs \ Pipeline.arrRefs (τ := τ) spec0

theorem arr_sub : Pipeline.arrRefs (τ := τ) spec0 ⊆ bufs := by decide

theorem others_eq (c : Dev nD) (W : Valuation τ sig (Elt F)) : (StableHlo.held (c : Thread nD τ) others W : PR F)
    = iprop(((c : Thread nD τ).loc main_arg0 ↦{fullShare} W main_arg0) ∗ ((c : Thread nD τ).loc main_arg1 ↦{fullShare} W main_arg1)
      ∗ ((c : Thread nD τ).loc main_arg2 ↦{fullShare} W main_arg2) ∗ ((c : Thread nD τ).loc main_v1 ↦{fullShare} W main_v1)
      ∗ ((c : Thread nD τ).loc main_v3 ↦{fullShare} W main_v3)) := by
  unfold StableHlo.held
  rw [bigSep_eq_bigSepL_of_eq [Proc.devRef .tc main_arg0, Proc.devRef .tc main_arg1, Proc.devRef .tc main_arg2, Proc.devRef .tc main_v1, Proc.devRef .tc main_v3]
    (by decide) (by decide)]
  rfl

/-! ## What a device brings to the ring and takes from it -/

/-- A device's part of the launch. -/
def Tk (c : Dev nD) : PR F := iprop(∃ K, Ctx (DX m) K ∗ four (opens c) ∗ four (rights c) ∗ greet c)

/-- The same with its cells opened. -/
def Xk (c : Dev nD) : PR F := iprop(∃ K, Ctx (DX m) K ∗ four (fun d l => posAt c d l 0 0) ∗ four (locals c) ∗ four (rights c) ∗ greet c)

def Yk (c : Dev nD) : PR F := semVal (cell c kBar) 0

theorem hopen (c : Dev nD) : iprop(Tk m c ∗ Pipeline.ownSems0 osem c ∗ levAts L lv) ⊢ (|={Set.univ}=> Xk m c : PR F) := by
  rw [own_four, four_sep]
  unfold Tk Xk
  iintro ⟨⟨%K, #HC, Ho, Hr, Hg⟩, ⟨Hc, Hl⟩, -⟩
  imod (open_four (DX m) K c) $$ [Ho Hc] with Hp
  · isplitr; · iexact HC
    isplitl [Ho]; · iexact Ho
    iexact Hc
  imodintro
  iexists K
  isplitr; · iexact HC
  isplitl [Hp]; · iexact Hp
  isplitl [Hl]; · iexact Hl
  isplitl [Hr]; · iexact Hr
  iexact Hg

/-- The region's proof data. -/
def dat0 (c : Dev nD) : Dat τ (Elt F) ℕ ℕ UU ℕ cfg0 c where
  A w := V m c (Pipeline.arrRef spec0 w)
  after := fun | 0 => fun t => iblk m c 0 t | ⟨_ + 1, h⟩ => absurd h (Nat.not_lt.2 (Nat.le_add_left _ _))
  Φ t := if t.val = 0 then iprop(scr c ∗ (∃ r, prngReg c r) ∗ StableHlo.held (c : Thread nD τ) others (W₁ m c) ∗ Xk m c)
    else iprop(scr c ∗ (∃ r, prngReg c r) ∗ StableHlo.held (c : Thread nD τ) others (W₂ m c) ∗ Pipeline.ownSems0 osem c ∗ Yk c)
  q _ := fullShare
  owed t := if t.val = 0 then O₀ c else 0

abbrev adm : (p : Fin 1) → (pcfgs (F := F) p).Adm := fun p => (cfgs p).toPCfg_adm
def pdats : (p : Fin 1) → (c : Dev nD) → Dat τ (Elt F) ℕ ℕ UU ℕ (Pipeline.pin (pcfgs (F := F)) adm p) c := fun _ => dat0 m

theorem owed_zero (c : Dev nD) : (pdats (F := F) m 0 c).owed 0 = O₀ c := by
  show (if ((0 : Fin (cfg0.N + 1)).val = 0) then O₀ c else 0) = O₀ c; exact if_pos rfl
theorem owed_first (c : Dev nD) : (dat0 (F := F) m c).owed t0_0.castSucc = O₀ c := by
  show (if (t0_0.castSucc : Fin (cfg0.N + 1)).val = 0 then O₀ c else 0) = O₀ c; exact if_pos rfl
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

theorem before_eq (c : Dev nD) (t : Fin cfg0.N) (d) : (dat0 m c).before 0 t d = iblk m c 0 t :=
  ((dat0 m c).before_in_eq_fetched 0 rfl (fun _ => rfl) (fun _ _ _ => rfl) (fun _ => rfl) t d).trans rfl

theorem blk_eq (c : Dev nD) (t : Fin cfg0.N) : iblk m c 0 t = (DX m).w c := by
  funext x
  show W₁ m c main_v2 _ = W₁ m c main_v2 x
  refine congrArg (W₁ m c main_v2) (funext fun a => Fin.ext ?_)
  show 0 * _ + 1 * (x a).val = (x a).val
  omega

/-- The staged scale, owned at its window's block, is what the run needs of it. -/
theorem scale_in (c : Dev nD) : (((c : Thread nD τ).loc cc0_stg0_0) ↦{fullShare} (DX m).w c : PR F) ⊢ gH (DX m) c (Memref.whole cc0_stg0_0) := by
  unfold gH
  iintro H
  iexists (DX m).w c
  isplitr
  · ipureintro
    exact Memref.readAt_unit_zero (Elt F) cc0_stg0_0 (by decide) _ _
  iexact H

theorem scale_out (c : Dev nD) : gH (DX m) c (Memref.whole cc0_stg0_0) ⊢ (((c : Thread nD τ).loc cc0_stg0_0) ↦{fullShare} (DX m).w c : PR F) := by
  unfold gH
  iintro ⟨%f, %hf, H⟩
  have h : f = (DX m).w c := (Memref.readAt_unit_zero (Elt F) cc0_stg0_0 (by decide) _ f).symm.trans hf
  subst h
  iexact H

theorem owes_in (c : Dev nD) (t : Fin (cfg0.N + 1)) (O : CellTallies nD τ sig ℕ) (h0 : (dat0 m c).owed t = O) :
    (Ow c O : PR F) ⊢ (dat0 m c).owesAt 0 t := by
  unfold Dat.owesAt Pipeline.owesWithin Dat.bound; rw [h0]
  iintro ⟨%W, HO⟩; iexists W; isplitr; · ipureintro; exact fun _ _ => Or.inl trivial
  iexact HO

theorem owes_out (c : Dev nD) (t : Fin (cfg0.N + 1)) (O : CellTallies nD τ sig ℕ) (h0 : (dat0 m c).owed t = O) :
    (dat0 m c).owesAt 0 t ⊢ (Ow c O : PR F) := by
  unfold Dat.owesAt Pipeline.owesWithin; rw [h0]
  iintro ⟨%W, -, HO⟩; iexists W; iexact HO

theorem wp_id (c : Dev nD) (k : Dev nD → Pg F PUnit) (Q : PUnit → PR F) : WP c (Prog.op .deviceId k) Q = WP c (k c) Q := wp_deviceId ..

theorem st0_four (X : Data F) (c : Dev nD) : four (st0 X c)
    = iprop(four (scratch c) ∗ four (fun d l => iprop(all1 X c d l ∗ allR X c d l ∗ fresh c d l 0)) ∗ four (locals c) ∗ four (fun d l => posAt c d l 0 0)
      ∗ four (rights c)) := by
  rw [show st0 X c = fun d l => iprop(scratch c d l ∗ (all1 X c d l ∗ allR X c d l ∗ fresh c d l 0) ∗ locals c d l ∗ posAt c d l 0 0 ∗ rights c d l) from rfl,
    four_sep (scratch c), four_sep (fun d l => iprop(all1 X c d l ∗ allR X c d l ∗ fresh c d l 0)), four_sep (locals c), four_sep fun d l => posAt c d l 0 0]

theorem stFin_four (X : Data F) (c : Dev nD) : four (stFin X c)
    = iprop(four (scratch c) ∗ four (fun d l => iprop(all1 X c d l ∗ allR X c d l ∗ done X c d l 12)) ∗ four (locals c) ∗ four (counters c)) := by
  rw [show stFin X c = fun d l => iprop(scratch c d l ∗ (all1 X c d l ∗ allR X c d l ∗ done X c d l 12) ∗ locals c d l ∗ counters c d l) from rfl,
    four_sep (scratch c), four_sep (fun d l => iprop(all1 X c d l ∗ allR X c d l ∗ done X c d l 12)), four_sep (locals c)]

/-- A device's run, from what the region brings to what it takes. -/
theorem wp_region (c : Dev nD) (Q : PUnit → PR F) :
    iprop((scr c ∗ StableHlo.held (c : Thread nD τ) others (W₁ m c) ∗ Xk m c) ∗ Ow c (O₀ c) ∗ ((c : Thread nD τ).loc cc0_stg0_0 ↦{fullShare} (DX m).w c))
      ⊢ iprop((iprop((scr c ∗ StableHlo.held (c : Thread nD τ) others (W₂ m c) ∗ Pipeline.ownSems0 osem c ∗ Yk c) ∗ Ow c 0
          ∗ ((c : Thread nD τ).loc cc0_stg0_0 ↦{fullShare} (DX m).w c)) -∗ Q ⟨⟩)
        -∗ WP c (Prog.op .deviceId fun c => prog (placeK c) (Memref.whole cc0_stg0_0)) Q) := by
  rw [wp_id, placeK_eq, others_eq, others_eq, own_four, four_sep,
    show W₂ m c main_v3 = fin' (DX m) from Function.update_self ..,
    show W₂ m c main_arg0 = W₁ m c main_arg0 from Function.update_of_ne (by decide) ..,
    show W₂ m c main_arg1 = W₁ m c main_arg1 from Function.update_of_ne (by decide) ..,
    show W₂ m c main_arg2 = W₁ m c main_arg2 from Function.update_of_ne (by decide) ..,
    show W₂ m c main_v1 = W₁ m c main_v1 from Function.update_of_ne (by decide) ..]
  unfold Xk Yk
  iintro ⟨⟨Hs, ⟨Ha0, Ha1, Ha2, Hv1, Hv3⟩, ⟨%K, #HC, Hp, Hl, Hr, Hg⟩⟩, HO, Hw⟩ Hk
  ihave Hm := (mem_split (DX m) c (W₁ m c main_v3)) $$ [Hs Ha1 Hv1 Hv3]
  · isplitl [Hs]; · iexact Hs
    isplitl [Ha1]; · iexact Ha1
    isplitl [Hv1]; · iexact Hv1
    iexact Hv3
  ihave Hw := (scale_in m c) $$ Hw
  iapply (wp_prog (DX m) K c Q (Memref.whole cc0_stg0_0)) $$ [Hm Hp Hl Hr Hg HO Hw]
  · isplitr; · iexact HC
    isplitl [Hm Hp Hl Hr]
    · iapply (Entails.of_eq (st0_four (DX m) c).symm)
      ihave Hm := (Entails.of_eq (four_sep _ _)) $$ Hm
      icases Hm with ⟨Hs, Hm⟩
      isplitl [Hs]; · iexact Hs
      isplitl [Hm]; · iexact Hm
      isplitl [Hl]; · iexact Hl
      isplitl [Hp]; · iexact Hp
      iexact Hr
    isplitl [Hg]; · iexact Hg
    isplitl [Hw]; · iexact Hw
    iexact HO
  iintro ⟨Hf, Hb, Hw, HO⟩
  iapply Hk
  ihave Hf := (Entails.of_eq (stFin_four (DX m) c)) $$ Hf
  icases Hf with ⟨Hs, Hm, Hl, Hc⟩
  ihave Hm := ((Entails.of_eq (four_sep _ _).symm).trans (mem_join (DX m) c)) $$ [Hs Hm]
  · isplitl [Hs]; · iexact Hs
    iexact Hm
  icases Hm with ⟨Hs, Ha1, Hv1, Hv3⟩
  isplitl [Hs Ha0 Ha1 Ha2 Hv1 Hv3 Hc Hl Hb]
  · isplitl [Hs]; · iexact Hs
    isplitl [Ha0 Ha1 Ha2 Hv1 Hv3]
    · isplitl [Ha0]; · iexact Ha0
      isplitl [Ha1]; · iexact Ha1
      isplitl [Ha2]; · iexact Ha2
      isplitl [Hv1]; · iexact Hv1
      iexact Hv3
    isplitl [Hc Hl]
    · isplitl [Hc]; · iexact Hc
      iexact Hl
    iexact Hb
  isplitl [HO]; · iexact HO
  iapply (scale_out m c); iexact Hw

/-- The region's body meets its obligation. -/
theorem body (c : Dev nD) : BodyObligation (dat0 m c) (defs₀ (F := F)) 𝒱₀ 0 Set.univ := fun t => by
  obtain rfl := fin_N0 t
  rw [bigSep_W0, bigSep_W0,
    show defs₀ (F := F) .tc cfg0.body (cfg0.bodyArgs t0_0 (cfg0.slots t0_0)) = bodyAt0 t0_0 from rfl,
    show bodyAt0 (F := F) t0_0 = cc0_body (F := F) (Memref.whole main_v1) (Memref.isWhole_whole _) (Memref.whole main_arg1) (Memref.isWhole_whole _) (Memref.whole cc0_stg0_0)
      (Memref.isWhole_whole _) (Memref.whole main_v3) (Memref.isWhole_whole _) (Memref.whole cc0_scratch0) (Memref.isWhole_whole _) (Memref.whole cc0_scratch1)
      (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 cc0_scratch12 cc0_scratch13 cc0_scratch14 cc0_scratch15 from rfl,
    body_eq,
    show (dat0 m c).Φ t0_0.castSucc = iprop(scr c ∗ (∃ r, prngReg c r) ∗ StableHlo.held (c : Thread nD τ) others (W₁ m c) ∗ Xk m c) from rfl,
    show (dat0 m c).Φ t0_0.succ = iprop(scr c ∗ (∃ r, prngReg c r) ∗ StableHlo.held (c : Thread nD τ) others (W₂ m c) ∗ Pipeline.ownSems0 osem c ∗ Yk c) from rfl]
  show iprop(_ ∗ _ ∗ (∃ d, owns (c : Thread nD τ) (Memref.whole cc0_stg0_0) fullShare ((dat0 m c).before 0 t0_0 d))) ⊢ _
  iintro ⟨⟨Hs, Hp, Hh, HX⟩, HO, ⟨%d, Hw⟩⟩
  ihave Hw := (Entails.of_eq ((congrArg (owns (c : Thread nD τ) (Memref.whole cc0_stg0_0) fullShare) ((before_eq m c t0_0 d).trans (blk_eq m c t0_0))).trans
    (owns_whole (c : Thread nD τ) cc0_stg0_0 fullShare _))) $$ Hw
  ihave HO := (owes_out m c _ (O₀ c) (owed_first m c)) $$ HO
  iapply (wp_region m c _) $$ [Hs Hh HX HO Hw]
  · isplitl [Hs Hh HX]
    · isplitl [Hs]; · iexact Hs
      isplitl [Hh]; · iexact Hh
      iexact HX
    isplitl [HO]; · iexact HO
    iexact Hw
  iintro ⟨⟨Hs, Hh, Ho, Hy⟩, HO, Hw⟩
  isplitl [Hs Hp Hh Ho Hy]
  · isplitl [Hs]; · iexact Hs
    isplitl [Hp]; · iexact Hp
    isplitl [Hh]; · iexact Hh
    isplitl [Ho]; · iexact Ho
    iexact Hy
  isplitl [HO]
  · iapply (owes_in m c _ 0 (owed_last m c)); iexact HO
  have h : (((c : Thread nD τ).loc cc0_stg0_0) ↦{fullShare} (DX m).w c : PR F) ⊢ owns (c : Thread nD τ) (Memref.whole cc0_stg0_0) fullShare ((dat0 m c).after 0 t0_0) :=
    Entails.of_eq ((congrArg (owns (c : Thread nD τ) (Memref.whole cc0_stg0_0) fullShare) (blk_eq m c t0_0)).trans (owns_whole (c : Thread nD τ) cc0_stg0_0 fullShare _)).symm
  iapply h; iexact Hw

end Cert.Kernel.Ring

end
-- ==== Proof.K.Launch.lean ====
module

public import proofs.«01_k».proof.Proof.K.Region

@[expose] public section

noncomputable section

namespace Cert.Kernel.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.Kernel Cert.Kernel.Gen

variable {F : FTy → Type} [FloatOps F]
variable (m : (ℓ : Loc nD τ sig) → Buf (Elt F) ℓ) (ρ : Dev nD → PrngReg)

/-! ## @main's two segments -/

/-- What rides beside the arrays up to the region. -/
def R (c : Dev nD) : PR F := iprop((∃ r, prngReg c r) ∗ Tk m c ∗ Ow c (O₀ c))

theorem ops_sub : ∀ op ∈ (hostOps0 : List (HloOp τ sig (Elt F))), op.bufs ⊆ bufs := fun op h => by
  simp only [hostOps0, List.mem_cons, List.not_mem_nil, or_false] at h
  rcases h with rfl | rfl
  · rw [StableHlo.reshape_bufs]; decide
  · rw [StableHlo.reshape_bufs]; decide

theorem ops_fresh : ∀ op ∈ (hostOps0 : List (HloOp τ sig (Elt F))), op.fresh = ∅ := List.forall_iff_forall_mem.mp hostOps0_fresh

abbrev HS : Type 1 := Pipeline.HostSeg (Ix := ℕ) (Name := ℕ) (U := UU) (Lvl := ℕ) (pcfgs (F := F)) (defs₀ (F := F)) 𝒱₀ L lv
abbrev RS : Type 1 := Pipeline.RegionSeg (pcfgs (F := F)) adm (pdats m) 0 (defs₀ (F := F)) 𝒱₀ L lv 0

def seg0 : HS (F := F) := Pipeline.HostSeg.ofOps _ _ _ _ _ bufs hostOps0 ops_sub ops_fresh (W₀ m) (R m)

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem above_O₀ (c : Dev nD) : Above 0 (O₀ c) :=
  ((((above_Lo (by omega) (by omega)).add (above_Lo (by omega) (by omega))).add (Above.tally (by decide) (by decide))).add (Above.tally (by decide) (by decide)))

theorem cutD (c : Dev nD) (t : Fin ((Pipeline.pin (pcfgs (F := F)) adm 0).N + 1)) (g : GSem nD τ sig) (i : ℕ) (h : 0 < (pdats (F := F) m 0 c).owed t g i) :
    i ∈ L g ∧ (0 : ℕ) < lv g i := by
  have e : (pdats (F := F) m 0 c).owed t = if t.val = 0 then O₀ c else 0 := rfl
  rw [e] at h
  split at h
  · exact above_O₀ c g i h
  · exact absurd h (Nat.lt_irrefl 0)

theorem lv_stage (c : Dev nD) (w : Fin (Pipeline.pin (pcfgs (F := F)) adm 0).W) (s : Fin ((Pipeline.pin (pcfgs (F := F)) adm 0).win w).nbuf) :
    lv ((c : Thread nD τ), .dma (((Pipeline.pin (pcfgs (F := F)) adm 0).win w).sem s)) 0 ≤ 0 := by
  have h : cls (.dma (((Pipeline.pin (pcfgs (F := F)) adm 0).win w).sem s) : SemLoc sig) = none := by
    have : ∀ (w : Fin 1) (s : Fin (win0 w).nbuf), ¬ ∃ k, sem k = (.dma ((win0 w).sem s) : SemLoc sig) := by decide +kernel
    exact dif_neg (this w s)
  unfold lv; rw [h]

set_option backward.isDefEq.respectTransparency.types false in
def reg0 : RS m :=
  Pipeline.RegionSeg.ofTalk (pcfgs (F := F)) adm (pdats m) 0 (defs₀ (F := F)) 𝒱₀ L lv 0 osem ownFacts
    others others (Finset.Subset.refl _) kitP rfl (fun c => (body m c).loose)
    (fun _ => 0) O₀ (fun c => (owed_zero m c).trans (zero_add _).symm) (owed_last m) (fun _ => rfl)
    (fun c w => by unfold Dat.share; split <;> rfl)
    (W₁ m) (W₂ m) (fun _ b hb => absurd hb (by rw [Finset.sdiff_self]; exact Finset.notMem_empty b))
    (Tk m) Yk (Xk m) Yk (hopen m)
    (fun c => by
      rw [show (pdats m 0 c).Φ 0 = iprop(scr c ∗ (∃ r, prngReg c r) ∗ StableHlo.held (c : Thread nD τ) others (W₁ m c) ∗ Xk m c) from rfl]
      exact BIClass.sep_mono (Entails.of_eq (scopedRest0_eq c)) BIBase.Entails.rfl)
    (fun c => by
      rw [show (pdats m 0 c).Φ (Fin.last _) = iprop(scr c ∗ (∃ r, prngReg c r) ∗ StableHlo.held (c : Thread nD τ) others (W₂ m c) ∗ Pipeline.ownSems0 osem c ∗ Yk c) from rfl]
      exact BIClass.sep_mono (Entails.of_eq (scopedRest0_eq c).symm) BIBase.Entails.rfl)
    (fun c => by iintro H; imodintro; iexact H)
    (fun _ => 0)
    ⟨fun c w s => by rw [L_tc]; decide, fun c w s => lv_stage c w s, fun c t g i h => cutD m c t g i h⟩
    (fun _ => iprop(emp))
    (fun c w => by fin_cases w; rfl)
    (fun c w => by
      rw [(pdats m 0 c).arrAt_in w (by fin_cases w; rfl)]
      fin_cases w
      show W₁ m c (Proc.devRef .tc main_v2) = W₂ m c (Proc.devRef .tc main_v2)
      exact (Function.update_of_ne (show (Proc.devRef .tc main_v2 : DevRef τ sig) ≠ Proc.devRef .tc main_v3 by decide) _ _).symm)

theorem bufs_split (c : Dev nD) (W : Valuation τ sig (Elt F)) : (StableHlo.held (c : Thread nD τ) bufs W : PR F)
    = iprop(StableHlo.held (c : Thread nD τ) (Pipeline.arrRefs (τ := τ) spec0) W ∗ StableHlo.held (c : Thread nD τ) others W) :=
  StableHlo.held_sub_split (c : Thread nD τ) arr_sub W

/-- A device at the end. -/
def Z (c : Dev nD) : PR F := iprop(StableHlo.held (c : Thread nD τ) bufs (W₂ m c) ∗ Yk c)

theorem reg0_pre (c : Dev nD) : iprop(StableHlo.held (c : Thread nD τ) bufs (W₁ m c) ∗ R m c) ⊢ (reg0 m).pre c := by
  show _ ⊢ iprop(StableHlo.held (c.tc : Thread nD τ) (Pipeline.arrRefs (τ := τ) (pcfgs (F := F) 0).spec) (W₁ m c) ∗ (∃ r, prngReg c r)
    ∗ (StableHlo.held (c.tc : Thread nD τ) others (W₁ m c) ∗ emp) ∗ Tk m c ∗ ∃ Wd, owes (c : Thread nD τ) (0 + O₀ c) Wd)
  rw [zero_add, bufs_split]
  unfold R
  iintro ⟨⟨Ha, Hh⟩, Hp, Ht, HO⟩
  isplitl [Ha]; · iexact Ha
  isplitl [Hp]; · iexact Hp
  isplitl [Hh]
  · isplitl [Hh]; · iexact Hh
    iempintro
  isplitl [Ht]; · iexact Ht
  iexact HO

theorem reg0_post (c : Dev nD) : (reg0 m).post c ⊢ iprop(Z m c ∗ ∃ W, owes (c : Thread nD τ) (0 : CellTallies nD τ sig ℕ) W) := by
  show iprop(StableHlo.held (c.tc : Thread nD τ) (Pipeline.arrRefs (τ := τ) (pcfgs (F := F) 0).spec) (W₂ m c) ∗ (∃ r, prngReg c r)
    ∗ (StableHlo.held (c.tc : Thread nD τ) others (W₂ m c) ∗ emp) ∗ Yk c ∗ ∃ Wd, owes (c : Thread nD τ) (0 : CellTallies nD τ sig ℕ) Wd) ⊢ _
  unfold Z
  rw [bufs_split]
  iintro ⟨Ha, -, ⟨Hh, -⟩, Hb, HO⟩
  isplitr [HO]
  · isplitl [Ha Hh]
    · isplitl [Ha]; · iexact Ha
      iexact Hh
    iexact Hb
  iexact HO

def segs : List (Pipeline.Seg (pcfgs (F := F)) adm (pdats m) 0 (defs₀ (F := F)) 𝒱₀ L lv) := [.host (seg0 m), .region (reg0 m)]

theorem main_eq (c : Dev nD) : main (F := F) c = Pipeline.Seg.run (segs m) :=
  main_segs adm (pdats m) 0 𝒱₀ L lv (seg0 m) (reg0 m) rfl c

/-! ## The launch -/

/-- The barriers' cells, and the cells that the kernel's own semaphores are. -/
def barEmb : Dev nD ↪ GSem nD τ sig := ⟨fun c => cell c kBar, fun _ _ h => (cell_inj h).1⟩
theorem cs_inj : Function.Injective fun p : (Bool × Fin 2) × Fin 5 => cs p.1 p.2 := by decide +kernel
def scEmb : Dev nD × ((Bool × Fin 2) × Fin 5) ↪ GSem nD τ sig :=
  ⟨fun p => cell p.1 (cs p.2.1 p.2.2), fun _ _ h => Prod.ext (cell_inj h).1 (cs_inj (cell_inj h).2)⟩
def allEmb : Dev nD × Cell ↪ GSem nD τ sig := ⟨fun p => cell p.1 p.2, fun _ _ h => Prod.ext (cell_inj h).1 (cell_inj h).2⟩

abbrev barCells : Finset (GSem nD τ sig) := Finset.univ.map barEmb
abbrev scCells : Finset (GSem nD τ sig) := Finset.univ.map scEmb

theorem cs_ne : ∀ p : (Bool × Fin 2) × Fin 5, cs p.1 p.2 ≠ kBar := by decide +kernel
theorem cs_all : ∀ k : Cell, k = kBar ∨ ∃ p : (Bool × Fin 2) × Fin 5, cs p.1 p.2 = k := by decide +kernel

theorem disjoint_cells : Disjoint (barCells : Finset (GSem nD τ sig)) scCells := by
  rw [Finset.disjoint_left]
  rintro g h₁ h₂
  obtain ⟨c, -, rfl⟩ := Finset.mem_map.mp h₁
  obtain ⟨p, -, h⟩ := Finset.mem_map.mp h₂
  exact cs_ne p.2 (cell_inj h).2

theorem cells_all : (barCells ∪ scCells : Finset (GSem nD τ sig)) = Finset.univ.map allEmb := by
  ext g
  rw [Finset.mem_union, Finset.mem_map, Finset.mem_map, Finset.mem_map]
  constructor
  · rintro (⟨c, -, rfl⟩ | ⟨p, -, rfl⟩)
    · exact ⟨(c, kBar), Finset.mem_univ _, rfl⟩
    · exact ⟨(p.1, cs p.2.1 p.2.2), Finset.mem_univ _, rfl⟩
  · rintro ⟨⟨c, k⟩, -, rfl⟩
    rcases cs_all k with rfl | ⟨p, rfl⟩
    · exact .inl ⟨c, Finset.mem_univ _, rfl⟩
    · exact .inr ⟨(c, p), Finset.mem_univ _, rfl⟩

/-- The launch element. -/
def u₀ : UU :=
  (initOf (Pipeline.cells (Pipeline.pin (pcfgs (F := F)) adm) cellOf_inj) (Pipeline.launchToks (Pipeline.pin (pcfgs (F := F)) adm) cellOf_inj),
    (launchOf barCells scCells toks, 1))

/-- A resource all of which is at one device. -/
def onDev (c₀ : Dev nD) (P : PR F) (c : Dev nD) : PR F := if c = c₀ then P else iprop(emp)
theorem bigSep_onDev (c₀ : Dev nD) (P : PR F) : bigSep Finset.univ (onDev c₀ P) = P := by
  rw [bigSep_univ_at _ c₀, bigSep_congr (s := Finset.univ.erase c₀) (Ψ := fun _ => (BI.emp : PR F))
      fun c hc => by unfold onDev; rw [if_neg (Finset.ne_of_mem_erase hc)]; rfl, BI.bigSep_emp_const]
  unfold onDev; rw [if_pos rfl]
  exact BI.equiv_iff.mp sep_emp

def G : Dev nD → PR F := onDev 0 (BI.own (ER (launchOf barCells scCells toks)))

/-- What every device may consult. -/
def records (κ : GSem nD τ sig → ℕ) : PR F := iprop(Ctx (DX m) κ ∗ bigSep barCells fun g => reached ER g 0)

instance records_persistent (κ : GSem nD τ sig → ℕ) : BI.Persistent (records m κ) := by unfold records; infer_instance

theorem reached_at (c : Dev nD) : (bigSep barCells fun g => (reached ER g 0 : PR F)) ⊢ reached ER (cell c kBar) 0 :=
  bigSep_elim (Finset.mem_map_of_mem barEmb (Finset.mem_univ c))

/-- What a device alone holds of the ring's state. -/
def linear (c : Dev nD) : PR F :=
  iprop(atPos ER (cell c kBar) 0 ∅ 0 ∗ four (opens c) ∗ ((four fun d l => iprop(sTok c d l 0 ∗ gTok c d l 0)) ∗ (tB false (tgt true c) ∗ tB true (tgt false c))))

/-- The rest of what a device holds at launch. -/
def bundle (c : Dev nD) : PR F :=
  iprop(StableHlo.held (c : Thread nD τ) bufs (W₀ m c) ∗ ((four fun d l => iprop(rCred c d l 0 ∗ gCred c d l 0)) ∗ cred (tallyAt (cell c kBar) 0 2))
    ∗ owes (c : Thread nD τ) (O₀ c) ∅ ∗ ∃ r, prngReg c r)

theorem rights_four (c : Dev nD) : iprop((four fun d l => iprop(rCred c d l 0 ∗ gCred c d l 0)) ∗ four fun d l => iprop(sTok c d l 0 ∗ gTok c d l 0))
    ⊢ (four (rights c) : PR F) := by
  rw [← four_sep]
  refine four_mono fun d l => ?_
  unfold rights
  iintro ⟨⟨A, B⟩, C, D⟩
  isplitl [A]; · iexact A
  isplitl [B]; · iexact B
  isplitl [D]; · iexact D
  iexact C

abbrev T₀ (c : Dev nD) : PR F := iprop(StableHlo.held (c : Thread nD τ) bufs (W₀ m c) ∗ R m c)

theorem T₀_intro (κ : GSem nD τ sig → ℕ) (c : Dev nD) : iprop(records m κ ∗ (linear c ∗ bundle m c)) ⊢ T₀ m c := by
  unfold records linear bundle T₀ R Tk greet tB
  iintro ⟨⟨#HC, #HR⟩, ⟨Hat, Ho, Ht, Hb1, Hb2⟩, Hh, ⟨Hc, Hcb⟩, HO, Hp⟩
  isplitl [Hh]; · iexact Hh
  isplitl [Hp]; · iexact Hp
  isplitr [HO]
  · iexists κ
    isplitr; · iexact HC
    isplitl [Ho]; · iexact Ho
    isplitl [Hc Ht]
    · iapply (rights_four c)
      isplitl [Hc]; · iexact Hc
      iexact Ht
    isplitl [Hb1]; · iexact Hb1
    isplitl [Hb2]; · iexact Hb2
    isplitr; · iapply (reached_at (tgt true c)); iexact HR
    isplitr; · iapply (reached_at (tgt false c)); iexact HR
    isplitl [Hcb]; · iexact Hcb
    iexact Hat
  iexists ∅; iexact HO

theorem unscopedBufs_held (c : Dev nD) (W : Valuation τ sig (Elt F)) :
    (unscopedBufs c (fun b => W b) : PR F) = StableHlo.held (c : Thread nD τ) bufs W := by
  unfold unscopedBufs StableHlo.held bufs StableHlo.tcRefs
  rw [Finset.filter_map, BI.bigSep_map]
  rfl

theorem unscopedSems0_eq (c : Dev nD) : (unscopedSems0 c : PR F) = semVal (cell c kBar) 0 := by
  unfold unscopedSems0
  rw [show (Finset.univ.filter fun sm : SemLoc sig => ¬ sm.isScoped .tc) = {SemLoc.reg barS} from by decide +kernel, BI.bigSep_singleton]

theorem opens_eq : bigSep scCells (fun g => (openTok ER g : PR F)) = bigSep Finset.univ fun c : Dev nD => four (opens c) := by
  rw [bigSep_map, bigSep_univ_prod]
  refine bigSep_congr fun c _ => ?_
  rw [bigSep_univ_prod, four_univ]
  rfl

/-- A family of pairs is a pair of families. -/
theorem unpair {P Q : Dev nD → PR F} : (bigSep Finset.univ fun c => iprop(P c ∗ Q c)) ⊢ iprop(bigSep Finset.univ P ∗ bigSep Finset.univ Q) :=
  Entails.of_eq (bigSep_sep' _ _ _)

/-- A pair of families is a family of pairs. -/
theorem pairUp {P Q : Dev nD → PR F} : iprop(bigSep Finset.univ P ∗ bigSep Finset.univ Q) ⊢ (bigSep Finset.univ fun c => iprop(P c ∗ Q c)) :=
  Entails.of_eq (bigSep_sep' _ _ _).symm

/-- The launch deals every device its first state. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : PR F) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (cell c kBar) 0 ∗ G c)) : PR F) := by
    rw [show unscopedBufs c (fun b => m ((c : Thread nD τ).loc b)) = StableHlo.held (c : Thread nD τ) bufs (W₀ m c) from unscopedBufs_held c (W₀ m c),
      unscopedSems0_eq]
    unfold bundle
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus]; · iexact Hus
    iexact HG
  have hv : bigSep Finset.univ (fun c : Dev nD => (semVal (cell c kBar) 0 : PR F)) ⊢ bigSep barCells (fun g => (semVal g 0 : PR F)) :=
    Entails.of_eq (bigSep_map (s := Finset.univ) barEmb (Φ := fun g : GSem nD τ sig => (semVal g 0 : PR F))).symm
  have hat : bigSep barCells (fun g => (atPos ER g 0 ∅ 0 : PR F)) ⊢ bigSep Finset.univ (fun c : Dev nD => (atPos ER (cell c kBar) 0 ∅ 0 : PR F)) :=
    Entails.of_eq (bigSep_map (s := Finset.univ) barEmb (Φ := fun g : GSem nD τ sig => (atPos ER g 0 ∅ 0 : PR F)))
  have hinv (κ : GSem nD τ sig → ℕ) : bigSep (barCells ∪ scCells) (fun g => cellInv ER (sched (DX m)) (κ g) g)
      ⊢ bigSep Finset.univ fun p : Dev nD × Cell => (cellInv ER (sched (DX m)) (κ (cell p.1 p.2)) (cell p.1 p.2) : PR F) :=
    Entails.of_eq (by rw [cells_all, bigSep_map]; rfl)
  iintro ⟨H, #Hlev⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (cell c kBar) 0 ∗ G c)) : PR F) from bigSep_mono fun c _ => hcore c) $$ H
  ihave H2 := unpair $$ H'; icases H2 with ⟨HB, H3⟩
  ihave H4 := unpair $$ H3; icases H4 with ⟨Hv, HG⟩
  ihave Hu := (show bigSep Finset.univ (G (F := F)) ⊢ BI.own (ER (launchOf barCells scCells toks)) from
    Entails.of_eq (bigSep_onDev (F := F) 0 (BI.own (ER (launchOf barCells scCells toks))))) $$ HG
  imod (Rounds.fund_launch ER (sched (DX m)) disjoint_cells (fun g _ h => h) toks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ bundle m c)) fun c _ => T₀_intro m κ c)
  isplitr
  · unfold records Ctx
    isplitr
    · isplitr; · iexact Hlev
      iapply (hinv κ); iexact Hinv
    iexact Hr
  iapply pairUp
  isplitr [HB]
  · unfold linear
    iapply pairUp; isplitl [Hat]; · iapply hat $$ Hat
    iapply pairUp; isplitl [Hopen]; · iapply (Entails.of_eq opens_eq) $$ Hopen
    iapply (Entails.of_eq toks_around) $$ Htok
  · iexact HB

theorem unscoped_eq : ∀ sm : SemLoc sig, sm.isScoped .tc = false → sm = .reg barS := by decide +kernel

theorem bufs_eq (c : Dev nD) (W : Valuation τ sig (Elt F)) : (StableHlo.held (c : Thread nD τ) bufs W : PR F)
    = iprop(((c : Thread nD τ).loc main_v2 ↦{fullShare} W main_v2) ∗ StableHlo.held (c : Thread nD τ) others W) := by
  rw [bufs_split]
  refine congrArg (fun P : PR F => iprop(P ∗ StableHlo.held (c : Thread nD τ) others W)) ?_
  unfold StableHlo.held
  rw [show Pipeline.arrRefs (τ := τ) spec0 = {Proc.devRef .tc main_v2} from by decide, BI.bigSep_singleton]

/-- What a device's memory is in the end. -/
def QY (c : Dev nD) (s : MemSt nD τ sig (Elt F)) : Prop :=
  (s.mem ((c : Thread nD τ).loc main_arg0) = W₁ m c main_arg0 ∧ s.mem ((c : Thread nD τ).loc main_arg1) = W₁ m c main_arg1
    ∧ s.mem ((c : Thread nD τ).loc main_arg2) = W₁ m c main_arg2 ∧ s.mem ((c : Thread nD τ).loc main_v3) = fin' (DX m)) ∧ s.sem (cell c kBar) = 0

theorem hfin (c : Dev nD) (s' : Phys nD τ sig (Elt F)) : iprop(Z m c ∗ SI s') ⊢ (|={Set.univ}=> iprop(⌜QY m c s'.mem⌝ ∗ SI s') : PR F) := by
  unfold Z Yk
  rw [bufs_eq, others_eq,
    show W₂ m c main_v3 = fin' (DX m) from Function.update_self ..,
    show W₂ m c main_arg0 = W₁ m c main_arg0 from Function.update_of_ne (by decide) ..,
    show W₂ m c main_arg1 = W₁ m c main_arg1 from Function.update_of_ne (by decide) ..,
    show W₂ m c main_arg2 = W₁ m c main_arg2 from Function.update_of_ne (by decide) ..]
  iintro ⟨⟨⟨-, Ha0, Ha1, Ha2, -, Hv⟩, Hb⟩, HSI⟩
  icombine HSI Ha0 gives %h0
  icombine HSI Ha1 gives %h1
  icombine HSI Ha2 gives %h2
  icombine HSI Hv gives %hv
  icombine HSI Hb gives %hb
  imodintro
  isplitr
  · ipureintro
    exact ⟨⟨Buf.eq_of_forall_mem_univ h0, Buf.eq_of_forall_mem_univ h1, Buf.eq_of_forall_mem_univ h2, Buf.eq_of_forall_mem_univ hv⟩, by simpa using hb⟩
  iexact HSI

set_option backward.isDefEq.respectTransparency.types false in
/-- From any memory with zero counters, every fair run of the four devices ends, with the arguments as they were, every device's result the
    ring's, and every counter at zero. -/
theorem run : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_v3) = fin' (DX m)) ∧ r.2.sem = fun _ => 0) :=
  Pipeline.θ_run_regions_kit_sems (pcfgs (F := F)) adm (pdats m) 0 cellOf_inj EP (defs₀ (F := F)) 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [bigSep_onDev]; iexact HX)
    (T₀ := T₀ m) (Tₙ := Z m)
    (hch := ⟨fun c => .rfl, fun c => reg0_pre m c, fun c => reg0_post m c⟩)
    (hinit := init m ρ)
    (QY := QY m)
    (hfin := hfin m)
    (hQ := fun s h hs => ⟨fun c => by
        obtain ⟨⟨h0, h1, h2, h3⟩, -⟩ := h c
        exact ⟨h0.trans (V_main_arg0 m c), h1.trans (V_main_arg1 m c), h2.trans (V_main_arg2 m c), h3⟩,
      sem_eq_zero hs fun c sm hsm => by
        obtain rfl := unscoped_eq sm hsm
        exact (h c).2⟩)

end Cert.Kernel.Ring

end
-- ==== Proof.K.Value.lean ====
module

public import proofs.«01_k».proof.Proof.K.Region
public import proofs.«01_k».proof.Proof.Gen.ReferenceIdeal.Run
public import Idealize.ShloMosaic.Lib.Pointwise.Reduce
public import Idealize.ShloMosaic.Lib.Pointwise.ReduceUnfold
public import Idealize.ShloMosaic.Lib.Pointwise.Reshape
public import Idealize.ShloMosaic.Lib.Pointwise.Tactic
public import Idealize.ShloMosaic.Lib.Layout
public import Idealize.ShloMosaic.Lib.StableHlo.ReadAt

@[expose] public section

noncomputable section

namespace Cert.Kernel.Ring

open Idealize.ShloMosaic Idealize.ShloMosaic.TcCoe
open Cert.Kernel Cert.Kernel.Gen

/-- An element of a row divided by the row's root mean square and scaled. -/
def nrmAt (y : Fin 2048 → EReal) (w : EReal) (k : Fin 2048) : EReal :=
  Ideal.div (y k) (Ideal.sqrt (Ideal.div (∑ q, y q * y q) (Ideal.ofBits .f32 0x45000000#32) + Ideal.ofBits .f32 0x358637BD#32)) * w

/-- The ring's finishing step at an element. -/
theorem nrmP_at (y : FVec Ideal S256x2048 .f32) (w : Vec Ideal S1x2048 .f32) (x : S256x2048.Idx) :
    nrmP y w x = nrmAt (fun k => y (ix2 (x 0) k)) (w (ix2 0 (x 1))) (x 1) := by
  unfold nrmAt
  pointwise

/-- The reference's result at an element. -/
theorem ref_at (a : FVec Ideal Cert.ReferenceIdeal.S4x8192x2048 .f32) (r : FVec Ideal S8192x2048 .f32) (g : FVec Ideal S2048 .f32) (i : S8192x2048.Idx) :
    (open Cert.ReferenceIdeal Cert.ReferenceIdeal.Facts₀ in mulf (Host.divf (addf (Host.reduceAdd a (constant S_ .f32 0x00000000#32) reducesTo_S4x8192x2048_S8192x2048_d0 h_S_) r) (broadcastInDim S8192x2048 ![0, 1] bcast_S8192x1_S8192x2048_0_1 (Host.sqrt (addf (Host.divf (broadcastInDim S8192x1 ![0] bcast_S8192_S8192x1_0 (Host.reduceAdd (mulf (addf (Host.reduceAdd a (constant S_ .f32 0x00000000#32) reducesTo_S4x8192x2048_S8192x2048_d0 h_S_) r) (addf (Host.reduceAdd a (constant S_ .f32 0x00000000#32) reducesTo_S4x8192x2048_S8192x2048_d0 h_S_) r)) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))) i
      = nrmAt (fun k => (∑ e : Fin 4, a (ix3 e (i 0) k)) + r (ix2 (i 0) k)) (g (ix1 (i 1))) (i 1) := by
  unfold nrmAt
  pointwise

/-- A row block read at an element. -/
theorem rowsOf_at (v : FVec Ideal S8192x2048 .f32) (I : Dev nD) (d : Bool) (j : Fin 4) (x : S256x2048.Idx) (i : S8192x2048.Idx)
    (h0 : (i 0).val = 2048 * I.val + 1024 * dirN d + 256 * j.val + (x 0).val) (h1 : (i 1).val = (x 1).val) :
    rowsOf v (blk I d j) x = v i := by
  unfold rowsOf
  show v _ = v i
  refine congrArg v (funext fun a => Fin.ext ?_)
  match a with
  | ⟨0, _⟩ =>
    show (2048 * I.val + 1024 * dirN d + 256 * j.val) + 1 * (x 0).val = (i 0).val
    omega
  | ⟨1, _⟩ =>
    show 0 + 1 * (x 1).val = (i 1).val
    omega

/-- The four devices' terms added along the ring are their sum. -/
theorem ring_sum (f : Dev nD → EReal) (d : Bool) (c : Dev nD) :
    f (frm d (frm d (frm d c))) + f (frm d (frm d c)) + f (frm d c) + f c = ∑ e : Fin 4, f e := by
  rw [Fin.sum_univ_four]
  obtain ⟨a, b, e, h⟩ : ∃ a b e : Dev nD, frm d c = a ∧ frm d a = b ∧ frm d b = e := ⟨_, _, _, rfl, rfl, rfl⟩
  obtain ⟨rfl, rfl, rfl⟩ := h
  revert c; intro c
  have hc : c = 0 ∨ c = 1 ∨ c = 2 ∨ c = 3 := by revert c; decide
  cases d <;> rcases hc with rfl | rfl | rfl | rfl
  · show f 1 + f 2 + f 3 + f 0 = _; ac_rfl
  · show f 2 + f 3 + f 0 + f 1 = _; ac_rfl
  · show f 3 + f 0 + f 1 + f 2 = _; ac_rfl
  · rfl
  · show f 3 + f 2 + f 1 + f 0 = _; ac_rfl
  · show f 0 + f 3 + f 2 + f 1 = _; ac_rfl
  · show f 1 + f 0 + f 3 + f 2 = _; ac_rfl
  · show f 2 + f 1 + f 0 + f 3 = _; ac_rfl

/-- A finished row block, written out. -/
theorem val_three (X : Data Ideal) (d : Bool) (j : Fin 4) (c I : Dev nD) (hI : frm d (frm d (frm d c)) = I) : val X d j 3 c
    = nrmP (addf (addf (addf (addf (rowsOf (X.x (frm d (frm d (frm d c)))) (blk I d j)) (rowsOf (X.x (frm d (frm d c))) (blk I d j)))
        (rowsOf (X.x (frm d c)) (blk I d j))) (rowsOf (X.x c) (blk I d j))) (rowsOf (X.r c) (blk I d j))) (X.w c) := by
  subst hI
  rfl

/-- The ring's result at an element. -/
theorem fin_value (X : Data Ideal) (R : FVec Ideal S8192x2048 .f32) (w : Vec Ideal S1x2048 .f32) (hr : ∀ c, X.r c = R) (hw : ∀ c, X.w c = w)
    (i : S8192x2048.Idx) :
    fin' X i = nrmAt (fun k => (∑ e : Fin 4, X.x e (ix2 (i 0) k)) + R (ix2 (i 0) k)) (w (ix2 0 (i 1))) (i 1) := by
  have hi : (i 0).val < 8192 := (i 0).isLt
  obtain ⟨d, j, I, x, h0, h1⟩ : ∃ (d : Bool) (j : Fin 4) (I : Dev nD) (x : S256x2048.Idx),
      (i 0).val = 2048 * I.val + 1024 * dirN d + 256 * j.val + (x 0).val ∧ (i 1).val = (x 1).val := by
    refine ⟨decide ((i 0).val / 1024 % 2 = 1), ⟨(i 0).val / 256 % 4, by omega⟩, ⟨(i 0).val / 2048, by show _ < 4; omega⟩,
      ix2 ⟨(i 0).val % 256, by omega⟩ (i 1), ?_, rfl⟩
    show (i 0).val = 2048 * ((i 0).val / 2048) + 1024 * dirN (decide ((i 0).val / 1024 % 2 = 1)) + 256 * ((i 0).val / 256 % 4) + (i 0).val % 256
    unfold dirN
    by_cases h : (i 0).val / 1024 % 2 = 1
    · rw [if_pos (decide_eq_true h)]; omega
    · rw [if_neg (by simpa using h)]; omega
  have hx1 : x 1 = i 1 := Fin.ext h1.symm
  rw [fin_at X i d j I x h0 h1, val_three X d j (frm d I) I (frm4 d I), nrmP_at, hr, hw, hx1]
  refine congrArg (fun y => nrmAt y (w (ix2 0 (i 1))) (i 1)) (funext fun k => ?_)
  have hv (v : FVec Ideal S8192x2048 .f32) : rowsOf v (blk I d j) (ix2 (x 0) k) = v (ix2 (i 0) k) := rowsOf_at v I d j _ _ h0 rfl
  show rowsOf _ _ _ + rowsOf _ _ _ + rowsOf _ _ _ + rowsOf _ _ _ + rowsOf _ _ _ = _
  simp only [hv]
  rw [ring_sum (fun e => X.x e (ix2 (i 0) k)) d (frm d I)]

/-! ## The arrays after the reshapes -/

variable (m : (ℓ : Loc nD τ sig) → Buf (Elt Ideal) ℓ)

theorem W₁_v1 (c : Dev nD) (a : Fin 8192) (k : Fin 2048) :
    (W₁ m c main_v1 : FVec Ideal S8192x2048 .f32) (ix2 a k) = (m ((c : Thread nD τ).loc main_arg0) : FVec Ideal S1x8192x2048 .f32) (ix3 0 a k) := by
  unfold W₁ hostOps0
  after_reads_at

theorem W₁_v2 (c : Dev nD) (k : Fin 2048) :
    (W₁ m c main_v2 : Vec Ideal S1x2048 .f32) (ix2 0 k) = (m ((c : Thread nD τ).loc main_arg2) : FVec Ideal S2048 .f32) (ix1 k) := by
  unfold W₁ hostOps0
  after_reads_at

/-- When every device holds its block of the summand and all of the residual and the scale, the ring's result is the normalised sum of them. -/
theorem fin_args (A : FVec Ideal Cert.ReferenceIdeal.S4x8192x2048 .f32) (R : FVec Ideal S8192x2048 .f32) (g : FVec Ideal S2048 .f32)
    (hA : ∀ c : Dev nD, m ((c : Thread nD τ).loc main_arg0) = Layout.block ⟨3, ![1, 8192, 2048]⟩ ⟨3, ![4, 8192, 2048]⟩ 0 4 c A)
    (hR : ∀ c : Dev nD, m ((c : Thread nD τ).loc main_arg1) = R) (hg : ∀ c : Dev nD, m ((c : Thread nD τ).loc main_arg2) = g)
    (i : S8192x2048.Idx) :
    fin' (DX m) i = nrmAt (fun k => (∑ e : Fin 4, A (ix3 e (i 0) k)) + R (ix2 (i 0) k)) (g (ix1 (i 1))) (i 1) := by
  have hw (c : Dev nD) : (DX m).w c = (DX m).w 0 := by
    funext x
    have hx : x = ix2 0 (x 1) := by
      funext a
      match a with
      | ⟨0, _⟩ => exact Fin.ext (by have : (x 0).val < 1 := (x 0).isLt; show (x 0).val = 0; omega)
      | ⟨1, _⟩ => rfl
    rw [hx]
    exact (W₁_v2 m c _).trans ((congrFun ((hg c).trans (hg 0).symm) _).trans (W₁_v2 m 0 _).symm)
  have hx (e : Dev nD) (a : Fin 8192) (k : Fin 2048) : (DX m).x e (ix2 a k) = A (ix3 e a k) := by
    refine (W₁_v1 m e a k).trans ?_
    rw [hA e]
    show A _ = A _
    refine congrArg A (funext fun b => Fin.ext ?_)
    match b with
    | ⟨0, _⟩ => show e.val * 1 + 0 = e.val; omega
    | ⟨1, _⟩ => rfl
    | ⟨2, _⟩ => rfl
  rw [fin_value (DX m) R ((DX m).w 0) (fun c => (V_main_arg1 m c).trans (hR c)) hw]
  rw [show (DX m).w 0 (ix2 0 (i 1)) = g (ix1 (i 1)) from (W₁_v2 m 0 _).trans (congrFun (hg 0) _)]
  refine congrArg (fun y => nrmAt y (g (ix1 (i 1))) (i 1)) (funext fun k => congrArg (· + R (ix2 (i 0) k)) (Finset.sum_congr rfl fun e _ => hx e _ _))

end Cert.Kernel.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.K.Transport
public import proofs.«01_k».proof.Proof.K.Launch
public import proofs.«01_k».proof.Proof.K.Value
public import Idealize.ShloMosaic.Adequacy
public import Idealize.ShloMosaic.Init

@[expose] public section

noncomputable section

namespace Cert.Proof

open Idealize.ShloMosaic Idealize.SL.Sem

/-- The kernel runs on four devices, its arguments unchanged and every counter back at zero. -/
theorem frame_p : quiescent_Kernel (hKernel := Cert.Kernel.Gen.facts) := fun m g _ =>
  (θ_run Cert.Kernel.defs _ _).mono (fun _ h => ⟨fun c => ⟨(h.1 c).1, (h.1 c).2.1, (h.1 c).2.2.1⟩, h.2⟩) (Cert.Kernel.Ring.run (F := Bits) m g)

/-- So does its idealization. -/
theorem frame_i : quiescent_KernelIdeal (hKernelIdeal := Cert.KernelIdeal.Gen.facts) := fun m g _ =>
  Cert.Kernel.Ring.tr m g _
    ((θ_run Cert.Kernel.defs _ _).mono (fun _ h => ⟨fun c => ⟨(h.1 c).1, (h.1 c).2.1, (h.1 c).2.2.1⟩, h.2⟩) (Cert.Kernel.Ring.run (F := Ideal) m g))

/-- The reference runs, its arguments unchanged; it has no counters. -/
theorem frame_r : quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- Every device of the kernel ends with the reference's result. -/
theorem value : algebraic_KernelIdeal_ReferenceIdeal (hKernelIdeal := Cert.KernelIdeal.Gen.facts) (hReferenceIdeal := Cert.ReferenceIdeal.Gen.facts) := by
  intro m g m' g' _ hm
  refine ⟨_, Cert.Kernel.Ring.tr m g _ ((θ_run Cert.Kernel.defs _ _).mono (fun _ h c => ⟨(h.1 c).2.2.2.trans ?_, (h.1 c).1, (h.1 c).2.1, (h.1 c).2.2.1⟩)
      (Cert.Kernel.Ring.run (F := Ideal) m g)),
    (θ_run Cert.ReferenceIdeal.defs _ _).mono (fun _ h => h 0) (Cert.ReferenceIdeal.Value.run (F := Ideal) m' g')⟩
  funext i
  exact (Cert.Kernel.Ring.fin_args m _ _ _ (fun c => (hm c).1) (fun c => (hm c).2.1) (fun c => (hm c).2.2) i).trans
    (Cert.Kernel.Ring.ref_at _ _ _ i).symm

theorem claim : Cert.Claim :=
  ⟨Cert.Kernel.Gen.facts, Cert.KernelIdeal.Gen.facts, Cert.ReferenceIdeal.Gen.facts, frame_p, frame_i, frame_r, trivial, value⟩

end Cert.Proof

end
